-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_temp_log2e" .f32 0x3E93BB63#32 (((5 * (Real.log 2))⁻¹ : ℝ) : EReal)
  ∧ IdealRules.named_const.Statement Cert.KernelIdeal.κ "inv_temp" .f32 0x3E4CCCCD#32 ((1 / 5 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x64 : Shape := ⟨2, ![1024, 64]⟩
abbrev S100000x64 : Shape := ⟨2, ![100000, 64]⟩
abbrev S1024x100000 : Shape := ⟨2, ![1024, 100000]⟩
abbrev S10x64 : Shape := ⟨2, ![10, 64]⟩
abbrev S64x10 : Shape := ⟨2, ![64, 10]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x64 .f32) (main_arg1 : FVec F S100000x64 .f32) (main_arg2 : FVec F S1024x64 .f32) (main_arg3 : FVec F S1024x100000 .f32) (main_arg4 : FVec F S10x64 .f32) (main_arg5 : FVec F S64x10 .f32) (main_arg6 : FVec F S64 .f32) (main_arg7 : FVec F S1x64 .f32) (main_arg8 : FVec F S1 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S1024x64 : Shape := ⟨2, ![1024, 64]⟩
abbrev S100000x64 : Shape := ⟨2, ![100000, 64]⟩
abbrev S1024x100000 : Shape := ⟨2, ![1024, 100000]⟩
abbrev S10x64 : Shape := ⟨2, ![10, 64]⟩
abbrev S64x10 : Shape := ⟨2, ![64, 10]⟩
abbrev S64 : Shape := ⟨1, ![64]⟩
abbrev S1x64 : Shape := ⟨2, ![1, 64]⟩
abbrev S1 : Shape := ⟨1, ![1]⟩
abbrev S64x1024 : Shape := ⟨2, ![64, 1024]⟩
abbrev S64x100000 : Shape := ⟨2, ![64, 100000]⟩
abbrev S100000x1024 : Shape := ⟨2, ![100000, 1024]⟩
abbrev S11x64 : Shape := ⟨2, ![11, 64]⟩
abbrev S1x1 : Shape := ⟨2, ![1, 1]⟩
abbrev S1x65 : Shape := ⟨2, ![1, 65]⟩
abbrev S64x4096 : Shape := ⟨2, ![64, 4096]⟩
abbrev S4096x1024 : Shape := ⟨2, ![4096, 1024]⟩
abbrev S1x1024 : Shape := ⟨2, ![1, 1024]⟩
abbrev S65x1024 : Shape := ⟨2, ![65, 1024]⟩
abbrev S1024 : Shape := ⟨1, ![1024]⟩
abbrev S1x4096 : Shape := ⟨2, ![1, 4096]⟩
abbrev S65x4096 : Shape := ⟨2, ![65, 4096]⟩
abbrev S64x1696 : Shape := ⟨2, ![64, 1696]⟩
abbrev S1696x1024 : Shape := ⟨2, ![1696, 1024]⟩
abbrev S1x1696 : Shape := ⟨2, ![1, 1696]⟩
abbrev S65x1696 : Shape := ⟨2, ![65, 1696]⟩
abbrev S10x1024 : Shape := ⟨2, ![10, 1024]⟩
abbrev S11x1024 : Shape := ⟨2, ![11, 1024]⟩
abbrev S_ : Shape := ⟨0, ![]⟩

abbrev nBuf : Space → Nat
  | .hbm => 21
  | .vmem => 13
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S1024x64, .f32⟩
  | .hbm, ⟨3, _⟩ => ⟨S1024x100000, .f32⟩
  | .hbm, ⟨4, _⟩ => ⟨S10x64, .f32⟩
  | .hbm, ⟨5, _⟩ => ⟨S64x10, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S64x1024, .f32⟩
  | .hbm, ⟨10, _⟩ => ⟨S64x1024, .f32⟩
  | .hbm, ⟨11, _⟩ => ⟨S64x100000, .f32⟩
  | .hbm, ⟨12, _⟩ => ⟨S64x1024, .f32⟩
  | .hbm, ⟨13, _⟩ => ⟨S100000x1024, .f32⟩
  | .hbm, ⟨14, _⟩ => ⟨S10x64, .f32⟩
  | .hbm, ⟨15, _⟩ => ⟨S1x64, .f32⟩
  | .hbm, ⟨16, _⟩ => ⟨S11x64, .f32⟩
  | .hbm, ⟨17, _⟩ => ⟨S1x1, .f32⟩
  | .hbm, ⟨18, _⟩ => ⟨S1x65, .f32⟩
  | .hbm, ⟨19, _⟩ => ⟨S1x1, .f32⟩
  | .hbm, ⟨20, _⟩ => ⟨S_, .f32⟩
  | .local _ .vmem, ⟨0, _⟩ => ⟨S64x1024, .f32⟩
  | .local _ .vmem, ⟨1, _⟩ => ⟨S64x1024, .f32⟩
  | .local _ .vmem, ⟨2, _⟩ => ⟨S64x4096, .f32⟩
  | .local _ .vmem, ⟨3, _⟩ => ⟨S64x4096, .f32⟩
  | .local _ .vmem, ⟨4, _⟩ => ⟨S64x1024, .f32⟩
  | .local _ .vmem, ⟨5, _⟩ => ⟨S4096x1024, .f32⟩
  | .local _ .vmem, ⟨6, _⟩ => ⟨S4096x1024, .f32⟩
  | .local _ .vmem, ⟨7, _⟩ => ⟨S10x64, .f32⟩
  | .local _ .vmem, ⟨8, _⟩ => ⟨S11x64, .f32⟩
  | .local _ .vmem, ⟨9, _⟩ => ⟨S1x65, .f32⟩
  | .local _ .vmem, ⟨10, _⟩ => ⟨S1x1, .f32⟩
  | .local _ .vmem, ⟨11, _⟩ => ⟨S1x1024, .f32⟩
  | .local _ .vmem, ⟨12, _⟩ => ⟨S65x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32_5 : BitVec 32 := 24#32
  let v13 : BitVec 1 := Scalar.cmpi .eq arg0 c24_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x65 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_temp" => some ((1 / 5 : ℝ) : EReal)
  | "inv_temp_log2e" => some (((5 * (Real.log 2))⁻¹ : ℝ) : EReal)
  | _ => none
-- ==== ReferenceIdeal.lean ====
abbrev S1024x64 : Shape := ⟨2, ![1024, 64]⟩
abbrev S100000x64 : Shape := ⟨2, ![100000, 64]⟩
abbrev S1024x100000 : Shape := ⟨2, ![1024, 100000]⟩
abbrev S10x64 : Shape := ⟨2, ![10, 64]⟩
abbrev S64x10 : Shape := ⟨2, ![64, 10]⟩
abbrev S64 : Shape := ⟨1, ![64]⟩
abbrev S1x64 : Shape := ⟨2, ![1, 64]⟩
abbrev S1 : Shape := ⟨1, ![1]⟩
abbrev S64x100000 : Shape := ⟨2, ![64, 100000]⟩
abbrev S_ : Shape := ⟨0, ![]⟩
abbrev S1024 : Shape := ⟨1, ![1024]⟩
abbrev S1024x1 : Shape := ⟨2, ![1024, 1]⟩
abbrev S1024x10 : Shape := ⟨2, ![1024, 10]⟩
abbrev S64x1 : Shape := ⟨2, ![64, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S1024x64, .f32⟩
  | .hbm, ⟨3, _⟩ => ⟨S1024x100000, .f32⟩
  | .hbm, ⟨4, _⟩ => ⟨S10x64, .f32⟩
  | .hbm, ⟨5, _⟩ => ⟨S64x10, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S64x100000, .f32⟩
  | .hbm, ⟨10, _⟩ => ⟨S1024x100000, .f32⟩
  | .hbm, ⟨11, _⟩ => ⟨S_, .f32⟩
  | .hbm, ⟨12, _⟩ => ⟨S1024x100000, .f32⟩
  | .hbm, ⟨13, _⟩ => ⟨S1024x100000, .f32⟩
  | .hbm, ⟨14, _⟩ => ⟨S1024x100000, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S1024x100000, .f32⟩
  | .hbm, ⟨19, _⟩ => ⟨S1024x100000, .f32⟩
  | .hbm, ⟨20, _⟩ => ⟨S1024x100000, .f32⟩
  | .hbm, ⟨21, _⟩ => ⟨S1024x100000, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S64x10, .f32⟩
  | .hbm, ⟨31, _⟩ => ⟨S1024x10, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024x1, .f32⟩
  | .hbm, ⟨38, _⟩ => ⟨S1024x10, .f32⟩
  | .hbm, ⟨39, _⟩ => ⟨S1024x10, .f32⟩
  | .hbm, ⟨40, _⟩ => ⟨S1024x10, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S1024x10, .f32⟩
  | .hbm, ⟨45, _⟩ => ⟨S1024x10, .f32⟩
  | .hbm, ⟨46, _⟩ => ⟨S64x10, .f32⟩
  | .hbm, ⟨47, _⟩ => ⟨S1024x10, .f32⟩
  | .hbm, ⟨48, _⟩ => ⟨S_, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024x1, .f32⟩
  | .hbm, ⟨54, _⟩ => ⟨S1024x10, .f32⟩
  | .hbm, ⟨55, _⟩ => ⟨S1024x10, .f32⟩
  | .hbm, ⟨56, _⟩ => ⟨S1024x10, .f32⟩
  | .hbm, ⟨57, _⟩ => ⟨S_, .f32⟩
  | .hbm, ⟨58, _⟩ => ⟨S1024, .f32⟩
  | .hbm, ⟨59, _⟩ => ⟨S1024x1, .f32⟩
  | .hbm, ⟨60, _⟩ => ⟨S1024x10, .f32⟩
  | .hbm, ⟨61, _⟩ => ⟨S1024x10, .f32⟩
  | .hbm, ⟨62, _⟩ => ⟨S1024x10, .f32⟩
  | .hbm, ⟨63, _⟩ => ⟨S1024x10, .f32⟩
  | .hbm, ⟨64, _⟩ => ⟨S10x64, .f32⟩
  | .hbm, ⟨65, _⟩ => ⟨S1024x64, .f32⟩
  | .hbm, ⟨66, _⟩ => ⟨S1x64, .f32⟩
  | .hbm, ⟨67, _⟩ => ⟨S1024x64, .f32⟩
  | .hbm, ⟨68, _⟩ => ⟨S1024x64, .f32⟩
  | .hbm, ⟨69, _⟩ => ⟨S_, .f32⟩
  | .hbm, ⟨70, _⟩ => ⟨S1024x64, .f32⟩
  | .hbm, ⟨71, _⟩ => ⟨S1024x64, .f32⟩
  | .hbm, ⟨72, _⟩ => ⟨S64x1, .f32⟩
  | .hbm, ⟨73, _⟩ => ⟨S1024x1, .f32⟩
  | .hbm, ⟨74, _⟩ => ⟨S1x1, .f32⟩
  | .hbm, ⟨75, _⟩ => ⟨S1024x1, .f32⟩
  | .hbm, ⟨76, _⟩ => ⟨S1024x1, .f32⟩
  | .hbm, ⟨77, _⟩ => ⟨S_, .f32⟩
  | .hbm, ⟨78, _⟩ => ⟨S1024x1, .f32⟩
  | .hbm, ⟨79, _⟩ => ⟨S1024x1, .f32⟩
  | .hbm, ⟨80, _⟩ => ⟨S1024x1, .f32⟩
  | .hbm, ⟨81, _⟩ => ⟨S1024x1, .f32⟩
  | .hbm, ⟨82, _⟩ => ⟨S1024x1, .i1⟩
  | .hbm, ⟨83, _⟩ => ⟨S1024x1, .f32⟩
  | .hbm, ⟨84, _⟩ => ⟨S1024x1, .f32⟩
  | .hbm, ⟨85, _⟩ => ⟨S1024x1, .f32⟩
  | .hbm, ⟨86, _⟩ => ⟨S1024x1, .f32⟩
  | .hbm, ⟨87, _⟩ => ⟨S1024x1, .f32⟩
  | .hbm, ⟨88, _⟩ => ⟨S1024x1, .f32⟩
  | .hbm, ⟨89, _⟩ => ⟨S1024x1, .f32⟩
  | .hbm, ⟨90, _⟩ => ⟨S1024x1, .f32⟩
  | .hbm, ⟨91, _⟩ => ⟨S1024, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S1024, .f32⟩
  | .hbm, ⟨97, _⟩ => ⟨S1024, .f32⟩
  | .hbm, ⟨98, _⟩ => ⟨S_, .f32⟩
  | .hbm, ⟨99, _⟩ => ⟨S1024, .f32⟩
  | .hbm, ⟨100, _⟩ => ⟨S1024, .f32⟩
  | .hbm, ⟨101, _⟩ => ⟨S1024, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_v57 : Ref sig .tc := ⟨.hbm, 93, rfl⟩
abbrev main_cst_11 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_cst_14 : Ref sig .tc := ⟨.hbm, 104, rfl⟩
abbrev main_v65 : Ref sig .tc := ⟨.hbm, 105, rfl⟩
abbrev main_v66 : Ref sig .tc := ⟨.hbm, 106, rfl⟩

abbrev nD : Nat := 1
abbrev τ : Topo := Topo.v7x

variable {F : FTy → Type} [FloatOps F]
-- ==== Proof.IdealBody.lean ====
/-
  One run of the kernel's body at a grid point, for any float values: what it leaves in the two accumulators (the sums of
  exponentials, and the rating-weighted sums of neighbours with the sums of ratings as their last row) and in the result's
  staging buffer, in the three cases of its conditionals: the first point, a point between, and the last point.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.VecWindow
public import Idealize.ShloMosaic.Lib.Exec
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

local notation "𝕄" => MT nD τ sig Unit (Elt F) ℕ (UR sig nD τ) ℕ

/-- The leading columns of a block of neighbours that the last point reads. -/
abbrev tailN (x : Vec F S64x4096 .f32) : Vec F S64x1696 .f32 :=
  View.ld x (Rect.unit (s := S64x4096) ![0, 0] S64x1696.size inb_S64x4096_S64x1696_0_0)
/-- The leading rows of a block of ratings that the last point reads. -/
abbrev tailR (x : Vec F S4096x1024 .f32) : Vec F S1696x1024 .f32 :=
  View.ld x (Rect.unit (s := S4096x1024) ![0, 0] S1696x1024.size inb_S4096x1024_S1696x1024_0_0)

/-- What the last point stores to the result, from the staged inputs and the two finished accumulators. -/
def outV (x0 : Vec F S64x1024 .f32) (x3 : Vec F S64x1024 .f32) (x5 : Vec F S10x64 .f32) (x6 : Vec F S11x64 .f32)
    (x7 : Vec F S1x65 .f32) (s : Vec F S1x1024 .f32) (a : Vec F S65x1024 .f32) : Vec F S1x1 .f32 :=
  k0_pay8 (k0_pay15 (k0_pay12 a) (k0_pay13 (k0_pay3 x0) s a) (k0_pay14 (F := F)))
    (k0_pay16 (k0_pay3 x0) x5 x3 x6 x7) (Scalar.ofBits .f32 0x00000000#32) (k0_pay17 (k0_pay3 x0) x5 x3 x6 x7) (k0_pay18 (F := F))

theorem hz : (![0, 0] : Fin 2 → Nat) = fun _ => 0 := funext fun a => by fin_cases a <;> rfl

/-- The whole buffer read through a memref that is a whole buffer is what it holds. -/
theorem readAt_whole {s : Shape} {e : EltTy} (M : Memref sig .tc .vmem s e) (h : M.IsWhole) (x : s.Idx → Elt F e)
    {off : Fin s.rank → ℕ} (inb : ∀ a, off a + s.size a ≤ s.size a) :
    M.view.readAt (Elt F) (Rect.unit off (no_index s.size) inb).toLoadRect (h.unread x) = x := by
  rw [View.readAt_full, h.read_unread]

/-- A part of a buffer read through a memref that is a whole buffer is that part of what it holds. -/
theorem readAt_part {s : Shape} {e : EltTy} (M : Memref sig .tc .vmem s e) (h : M.IsWhole) (x : s.Idx → Elt F e)
    {off size : Fin s.rank → ℕ} (inb : ∀ a, off a + size a ≤ s.size a) :
    M.view.readAt (Elt F) (Rect.unit off (no_index size) inb).toLoadRect (h.unread x) = View.ld x (Rect.unit off size inb) := by
  conv_rhs => rw [← h.read_unread (Val := Elt F) x]
  rfl

/-- A load of a whole buffer after a store of the whole of it reads what was stored. -/
theorem readCov_whole {s : Shape} {e : EltTy} (v : View sig .tc .vmem s e) {off off' : Fin s.rank → ℕ}
    (inb : ∀ a, off a + s.size a ≤ s.size a) (inb' : ∀ a, off' a + s.size a ≤ s.size a) (w : s.Idx → Elt F e) :
    v.readCov [(⟨Rect.unit off' (no_index s.size) inb', w⟩ : View.Piece (Elt F) s e)] (Rect.unit off (no_index s.size) inb).toLoadRect = w :=
  View.readCov_full v inb inb' w []

theorem outV_congr {x0 y0 : Vec F S64x1024 .f32} {x3 y3 : Vec F S64x1024 .f32} {x5 y5 : Vec F S10x64 .f32} {x6 y6 : Vec F S11x64 .f32}
    {x7 y7 : Vec F S1x65 .f32} {s t : Vec F S1x1024 .f32} {a b : Vec F S65x1024 .f32} (h0 : x0 = y0) (h3 : x3 = y3) (h5 : x5 = y5)
    (h6 : x6 = y6) (h7 : x7 = y7) (hs : s = t) (ha : a = b) : outV x0 x3 x5 x6 x7 s a = outV y0 y3 y5 y6 y7 t b := by
  subst h0 h3 h5 h6 h7 hs ha; rfl

section Cases

variable (c : Dev nD) (i : grid0.Coords)
  (arg1 : Memref sig .tc .vmem S64x1024 .f32) (harg1 : arg1.IsWhole)
  (arg2 : Memref sig .tc .vmem S64x1024 .f32) (harg2 : arg2.IsWhole)
  (arg3 : Memref sig .tc .vmem S64x4096 .f32) (harg3 : arg3.IsWhole)
  (arg4 : Memref sig .tc .vmem S64x1024 .f32) (harg4 : arg4.IsWhole)
  (arg5 : Memref sig .tc .vmem S4096x1024 .f32) (harg5 : arg5.IsWhole)
  (arg6 : Memref sig .tc .vmem S10x64 .f32) (harg6 : arg6.IsWhole)
  (arg7 : Memref sig .tc .vmem S11x64 .f32) (harg7 : arg7.IsWhole)
  (arg8 : Memref sig .tc .vmem S1x65 .f32) (harg8 : arg8.IsWhole)
  (arg9 : Memref sig .tc .vmem S1x1 .f32) (harg9 : arg9.IsWhole)
  (arg10 : Memref sig .tc .vmem S1x1024 .f32) (harg10 : arg10.IsWhole)
  (arg11 : Memref sig .tc .vmem S65x1024 .f32) (harg11 : arg11.IsWhole)
  (x0 : Vec F S64x1024 .f32) (x1 : Vec F S64x1024 .f32) (x2 : Vec F S64x4096 .f32) (x3 : Vec F S64x1024 .f32)
  (x4 : Vec F S4096x1024 .f32) (x5 : Vec F S10x64 .f32) (x6 : Vec F S11x64 .f32) (x7 : Vec F S1x65 .f32)

/-- The eight staged inputs, held at their contents. -/
abbrev ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6 ∗ owns (c : Thread nD τ) arg8 fullShare x7)

set_option maxHeartbeats 1000000 in
/-- THE FIRST POINT: both accumulators are cleared, then the point's block is added to each. -/
theorem run_first (hc0 : (Scalar.cmpi .ne (Scalar.extui (Scalar.cmpi .eq (BitVec.ofNat 32 (i 0).val) 0#32)) 0#32) = 1#1)
    (hc1 : (Scalar.cmpi .ne (Scalar.extui (Scalar.cmpi .slt (BitVec.ofNat 32 (i 0).val) 24#32)) 0#32) = 1#1) (hc2 : ¬k0_cond3 i = 1#1)
    (o : Vec F S1x1 .f32) (s : Vec F S1x1024 .f32) (a : Vec F S65x1024 .f32) (E : Set ℕ) (K : PUnit → sProp 𝕄) :
    iprop((ins c arg1 arg2 arg3 arg4 arg5 arg6 arg7 arg8 x0 x1 x2 x3 x4 x5 x6 x7) ∗ owns (c : Thread nD τ) arg9 fullShare o ∗ owns (c : Thread nD τ) arg10 fullShare s ∗ owns (c : Thread nD τ) arg11 fullShare a
        ∗ (iprop((ins c arg1 arg2 arg3 arg4 arg5 arg6 arg7 arg8 x0 x1 x2 x3 x4 x5 x6 x7) ∗ owns (c : Thread nD τ) arg9 fullShare o ∗ owns (c : Thread nD τ) arg10 fullShare (k0_pay6 x1 x2 (k0_pay1 (F := F))) ∗ owns (c : Thread nD τ) arg11 fullShare (k0_pay7 x2 x4 (k0_pay2 (F := F)))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%fs0, %hs0, HS0⟩, ⟨%fs1, %hs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  obtain rfl := harg9.eq_unread hf8; obtain rfl := harg10.eq_unread hs0; obtain rfl := harg11.eq_unread hs1
  sl_exec (disch := first | sl_exact hc0 | sl_exact hc1 | sl_exact hc2)
  sl_step
  iapply Hk
  isplitl [H0 H1 H2 H3 H4 H5 H6 H7]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [H8]
  · iexists _; isplitr; swap; · iexact H8
    ipureintro; exact harg9.read_unread _
  isplitl [HS0]
  · iexists _; isplitr; swap; · iexact HS0
    ipureintro; sl_unfold_words; rw [View.read_writes_full]; simp only [readAt_whole, readCov_whole]
  iexists _; isplitr; swap; · iexact HS1
  ipureintro; sl_unfold_words; rw [View.read_writes_full]; simp only [readAt_whole, readCov_whole]

set_option maxHeartbeats 1000000 in
/-- A POINT BETWEEN: the point's block is added to each accumulator. -/
theorem run_mid (hc0 : ¬(Scalar.cmpi .ne (Scalar.extui (Scalar.cmpi .eq (BitVec.ofNat 32 (i 0).val) 0#32)) 0#32) = 1#1)
    (hc1 : (Scalar.cmpi .ne (Scalar.extui (Scalar.cmpi .slt (BitVec.ofNat 32 (i 0).val) 24#32)) 0#32) = 1#1) (hc2 : ¬k0_cond3 i = 1#1)
    (o : Vec F S1x1 .f32) (s : Vec F S1x1024 .f32) (a : Vec F S65x1024 .f32) (E : Set ℕ) (K : PUnit → sProp 𝕄) :
    iprop((ins c arg1 arg2 arg3 arg4 arg5 arg6 arg7 arg8 x0 x1 x2 x3 x4 x5 x6 x7) ∗ owns (c : Thread nD τ) arg9 fullShare o ∗ owns (c : Thread nD τ) arg10 fullShare s ∗ owns (c : Thread nD τ) arg11 fullShare a
        ∗ (iprop((ins c arg1 arg2 arg3 arg4 arg5 arg6 arg7 arg8 x0 x1 x2 x3 x4 x5 x6 x7) ∗ owns (c : Thread nD τ) arg9 fullShare o ∗ owns (c : Thread nD τ) arg10 fullShare (k0_pay6 x1 x2 s) ∗ owns (c : Thread nD τ) arg11 fullShare (k0_pay7 x2 x4 a)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%fs0, %hs0, HS0⟩, ⟨%fs1, %hs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  obtain rfl := harg9.eq_unread hf8; obtain rfl := harg10.eq_unread hs0; obtain rfl := harg11.eq_unread hs1
  sl_exec (disch := first | sl_exact hc0 | sl_exact hc1 | sl_exact hc2)
  sl_step
  iapply Hk
  isplitl [H0 H1 H2 H3 H4 H5 H6 H7]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [H8]
  · iexists _; isplitr; swap; · iexact H8
    ipureintro; exact harg9.read_unread _
  isplitl [HS0]
  · iexists _; isplitr; swap; · iexact HS0
    ipureintro; sl_unfold_words; rw [View.read_writes_full]; simp only [readAt_whole, readAt_part]
  iexists _; isplitr; swap; · iexact HS1
  ipureintro; sl_unfold_words; rw [View.read_writes_full]; simp only [readAt_whole, readAt_part]

set_option maxHeartbeats 1000000 in
/-- THE LAST POINT: the part of its block inside the arrays is added to each accumulator, and the result computed from them. -/
theorem run_last (hc0 : ¬(Scalar.cmpi .ne (Scalar.extui (Scalar.cmpi .eq (BitVec.ofNat 32 (i 0).val) 0#32)) 0#32) = 1#1)
    (hc1 : ¬(Scalar.cmpi .ne (Scalar.extui (Scalar.cmpi .slt (BitVec.ofNat 32 (i 0).val) 24#32)) 0#32) = 1#1) (hc2 : k0_cond3 i = 1#1)
    (o : Vec F S1x1 .f32) (s : Vec F S1x1024 .f32) (a : Vec F S65x1024 .f32) (E : Set ℕ) (K : PUnit → sProp 𝕄) :
    iprop((ins c arg1 arg2 arg3 arg4 arg5 arg6 arg7 arg8 x0 x1 x2 x3 x4 x5 x6 x7) ∗ owns (c : Thread nD τ) arg9 fullShare o ∗ owns (c : Thread nD τ) arg10 fullShare s ∗ owns (c : Thread nD τ) arg11 fullShare a
        ∗ (iprop((ins c arg1 arg2 arg3 arg4 arg5 arg6 arg7 arg8 x0 x1 x2 x3 x4 x5 x6 x7) ∗ owns (c : Thread nD τ) arg9 fullShare (outV x0 x3 x5 x6 x7 (k0_pay10 (k0_pay4 x1) (tailN x2) s) (k0_pay11 (tailN x2) (tailR x4) a)) ∗ owns (c : Thread nD τ) arg10 fullShare (k0_pay10 (k0_pay4 x1) (tailN x2) s) ∗ owns (c : Thread nD τ) arg11 fullShare (k0_pay11 (tailN x2) (tailR x4) a)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%fs0, %hs0, HS0⟩, ⟨%fs1, %hs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  obtain rfl := harg9.eq_unread hf8; obtain rfl := harg10.eq_unread hs0; obtain rfl := harg11.eq_unread hs1
  sl_exec (disch := first | sl_exact hc0 | sl_exact hc1 | sl_exact hc2)
  sl_step
  iapply Hk
  isplitl [H0 H1 H2 H3 H4 H5 H6 H7]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [H8]
  · iexists _; isplitr; swap; · iexact H8
    ipureintro; rw [View.read_writes_full]; change outV _ _ _ _ _ _ _ = _
    refine outV_congr (readAt_whole _ _ _ _) (readAt_whole _ _ _ _) (readAt_whole _ _ _ _) (readAt_whole _ _ _ _) (readAt_whole _ _ _ _) ?_ ?_
    · sl_unfold_words; simp only [readAt_whole, readAt_part, readCov_whole]
    · sl_unfold_words; simp only [readAt_whole, readAt_part, readCov_whole]
  isplitl [HS0]
  · iexists _; isplitr; swap; · iexact HS0
    ipureintro; sl_unfold_words; rw [View.read_writes_full]; simp only [readAt_whole, readAt_part]
  iexists _; isplitr; swap; · iexact HS1
  ipureintro; sl_unfold_words; rw [View.read_writes_full]; simp only [readAt_whole, readAt_part]

end Cases

end Cert.KernelIdeal.Run

end
-- ==== Proof.IdealRun.lean ====
/-
  The whole run of the program, for any float values: the accumulators point by point, the proof data of the pipeline, the
  body's obligation at each point, and the run itself — every execution ends, with every semaphore counter at zero.

  Two of the kernel's inputs come in blocks of which the last runs past the array: there the buffer keeps, beyond the part
  that was fetched, whatever it held. Their buffers are therefore described as the fetched part over some contents, and the
  body is shown to depend on the fetched part alone: before the last point the blocks are whole, and at the last point it
  reads the leading 1696 neighbours only.
-/
module

public import proofs.«01_k».proof.Proof.IdealBody
public import Idealize.ShloMosaic.Lib.Pipeline.FrameSuffix
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions of the body, point by point -/

theorem cond_first : ∀ t : Fin cfg0.N, (Scalar.cmpi .ne (Scalar.extui (Scalar.cmpi .eq (BitVec.ofNat 32 (grid0.coords t 0).val) 0#32)) 0#32) = 1#1 ↔ t.val = 0 :=
  (by decide +kernel : ∀ t : Fin grid0.N, (Scalar.cmpi .ne (Scalar.extui (Scalar.cmpi .eq (BitVec.ofNat 32 (grid0.coords t 0).val) 0#32)) 0#32) = 1#1 ↔ t.val = 0)
theorem cond_full : ∀ t : Fin cfg0.N, (Scalar.cmpi .ne (Scalar.extui (Scalar.cmpi .slt (BitVec.ofNat 32 (grid0.coords t 0).val) 24#32)) 0#32) = 1#1 ↔ t.val < 24 :=
  (by decide +kernel : ∀ t : Fin grid0.N, (Scalar.cmpi .ne (Scalar.extui (Scalar.cmpi .slt (BitVec.ofNat 32 (grid0.coords t 0).val) 24#32)) 0#32) = 1#1 ↔ t.val < 24)
theorem cond_last : ∀ t : Fin cfg0.N, k0_cond3 (grid0.coords t) = 1#1 ↔ t.val = 24 :=
  (by decide +kernel : ∀ t : Fin grid0.N, k0_cond3 (grid0.coords t) = 1#1 ↔ t.val = 24)

/-- Before the last point the result is neither stored nor written back; at the last point it is stored. -/
theorem idle_out : ∀ t : Fin cfg0.N, t.val < 24 → cfg0.idle 8 (grid0.coords t) = true := by decide +kernel
theorem noFlush_out : ∀ t : Fin cfg0.N, t.val < 24 → (cfg0.win 8).flush t = false := by decide +kernel
theorem live_out : ∀ t : Fin cfg0.N, t.val = 24 → cfg0.idle 8 (grid0.coords t) = false := by decide +kernel

/-- Before the last point the blocks of neighbours and of ratings are whole, -/
theorem whole_N : ∀ t : Fin cfg0.N, t.val < 24 → ∀ a, (cfg0.win 2).clip (grid0.coords t) a = none := by decide +kernel
theorem whole_R : ∀ t : Fin cfg0.N, t.val < 24 → ∀ a, (cfg0.win 4).clip (grid0.coords t) a = none := by decide +kernel
/-- and at the last point 1696 neighbours are inside. -/
theorem size_N : ∀ t : Fin cfg0.N, t.val = 24 → ((cfg0.win 2).xblock (grid0.coords t)).size = ![64, 1696] := by decide +kernel
theorem size_R : ∀ t : Fin cfg0.N, t.val = 24 → ((cfg0.win 4).xblock (grid0.coords t)).size = ![1696, 1024] := by decide +kernel

/-! ## The blocks -/

/-- The block of neighbours at a point, laid over the contents `d`. -/
abbrev nOver (c : Dev nD) (t : Fin cfg0.N) (d : Vec F S64x4096 .f32) : Vec F S64x4096 .f32 :=
  (cfg0.win 2).fill (grid0.coords t) d (iblk m c 2 t)
/-- The block of ratings at a point, laid over the contents `d`. -/
abbrev rOver (c : Dev nD) (t : Fin cfg0.N) (d : Vec F S4096x1024 .f32) : Vec F S4096x1024 .f32 :=
  (cfg0.win 4).fill (grid0.coords t) d (iblk m c 4 t)
/-- The two, laid over zeros. -/
abbrev nblk (c : Dev nD) (t : Fin cfg0.N) : Vec F S64x4096 .f32 := nOver m c t fun _ => Scalar.ofBits .f32 0#32
abbrev rblk (c : Dev nD) (t : Fin cfg0.N) : Vec F S4096x1024 .f32 := rOver m c t fun _ => Scalar.ofBits .f32 0#32

theorem nOver_eq (c : Dev nD) (t : Fin cfg0.N) (h : t.val < 24) (d : Vec F S64x4096 .f32) : nOver m c t d = nblk m c t :=
  Pipeline.fill_of_clip_none (cfg := cfg0) 2 _ (whole_N t h) _ _ _
theorem rOver_eq (c : Dev nD) (t : Fin cfg0.N) (h : t.val < 24) (d : Vec F S4096x1024 .f32) : rOver m c t d = rblk m c t :=
  Pipeline.fill_of_clip_none (cfg := cfg0) 4 _ (whole_R t h) _ _ _

theorem tailN_eq (c : Dev nD) (t : Fin cfg0.N) (h : t.val = 24) (d : Vec F S64x4096 .f32) : tailN (nOver m c t d) = tailN (nblk m c t) := by
  funext j
  have hm : (cfg0.win 2).moved (grid0.coords t) ((Rect.unit (s := S64x4096) ![0, 0] S64x1696.size inb_S64x4096_S64x1696_0_0).idx j) = true := by
    rw [Window.moved_iff]
    intro a
    have e : (cfg0.win 2).xsize (grid0.coords t) a = (![64, 1696] : Fin 2 → ℕ) a := congrFun (size_N t h) a
    rw [e]; show (![0, 0] : Fin 2 → ℕ) a + 1 * (j a).val < _
    have := (j a).isLt
    fin_cases a
    · simpa using this
    · simpa using this
  show (cfg0.win 2).fill _ _ _ _ = (cfg0.win 2).fill _ _ _ _
  unfold Window.fill; rw [dif_pos hm, dif_pos hm]
theorem tailR_eq (c : Dev nD) (t : Fin cfg0.N) (h : t.val = 24) (d : Vec F S4096x1024 .f32) : tailR (rOver m c t d) = tailR (rblk m c t) := by
  funext j
  have hm : (cfg0.win 4).moved (grid0.coords t) ((Rect.unit (s := S4096x1024) ![0, 0] S1696x1024.size inb_S4096x1024_S1696x1024_0_0).idx j) = true := by
    rw [Window.moved_iff]
    intro a
    have e : (cfg0.win 4).xsize (grid0.coords t) a = (![1696, 1024] : Fin 2 → ℕ) a := congrFun (size_R t h) a
    rw [e]; show (![0, 0] : Fin 2 → ℕ) a + 1 * (j a).val < _
    have := (j a).isLt
    fin_cases a
    · simpa using this
    · simpa using this
  show (cfg0.win 4).fill _ _ _ _ = (cfg0.win 4).fill _ _ _ _
  unfold Window.fill; rw [dif_pos hm, dif_pos hm]

/-! ## The accumulators point by point -/

/-- The sums of exponentials after point `n`. -/
def accS (c : Dev nD) : (n : ℕ) → n < cfg0.N → Vec F S1x1024 .f32
  | 0, h => k0_pay6 (iblk m c 1 ⟨0, h⟩) (nblk m c ⟨0, h⟩) (k0_pay1 (F := F))
  | n + 1, h =>
    if n + 1 < 24 then k0_pay6 (iblk m c 1 ⟨n + 1, h⟩) (nblk m c ⟨n + 1, h⟩) (accS c n (Nat.lt_of_succ_lt h))
    else k0_pay10 (k0_pay4 (iblk m c 1 ⟨n + 1, h⟩)) (tailN (nblk m c ⟨n + 1, h⟩)) (accS c n (Nat.lt_of_succ_lt h))
/-- The rating-weighted sums after point `n`. -/
def accM (c : Dev nD) : (n : ℕ) → n < cfg0.N → Vec F S65x1024 .f32
  | 0, h => k0_pay7 (nblk m c ⟨0, h⟩) (rblk m c ⟨0, h⟩) (k0_pay2 (F := F))
  | n + 1, h =>
    if n + 1 < 24 then k0_pay7 (nblk m c ⟨n + 1, h⟩) (rblk m c ⟨n + 1, h⟩) (accM c n (Nat.lt_of_succ_lt h))
    else k0_pay11 (tailN (nblk m c ⟨n + 1, h⟩)) (tailR (rblk m c ⟨n + 1, h⟩)) (accM c n (Nat.lt_of_succ_lt h))

/-- What the last point stores to the result (at the other points nothing is stored, and this is not consulted). -/
def outAt (c : Dev nD) (t : Fin cfg0.N) : Vec F S1x1 .f32 :=
  outV (iblk m c 0 t) (iblk m c 3 t) (iblk m c 5 t) (iblk m c 6 t) (iblk m c 7 t) (accS m c t.val t.isLt) (accM m c t.val t.isLt)

/-! ## The proof data -/

abbrev scS : Memref sig .tc .vmem S1x1024 .f32 := Memref.whole cc0_scratch0
abbrev scM : Memref sig .tc .vmem S65x1024 .f32 := Memref.whole cc0_scratch1

/-- The launch's scratch: the two accumulators at anything, and the generator register. -/
theorem PhiA_eq (c : Dev nD) :
    (Pipeline.ΦA spec0 c : sProp 𝕄)
      = iprop(iprop((∃ d, owns (c : Thread nD τ) scS fullShare d) ∗ (∃ d, owns (c : Thread nD τ) scM fullShare d)) ∗ (∃ r, prngReg c r)) := by
  unfold Pipeline.ΦA; rw [scopedRest0_eq]; simp only [scS, scM, owns_whole]; try rfl

/-- The accumulators before point `n`: at anything before the first, then at what the point before left. -/
def PhiS (c : Dev nD) : (n : ℕ) → n ≤ cfg0.N → sProp 𝕄
  | 0, _ => Pipeline.ΦA spec0 c
  | n + 1, h => iprop(iprop(owns (c : Thread nD τ) scS fullShare (accS m c n h) ∗ owns (c : Thread nD τ) scM fullShare (accM m c n h)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => nblk m c t
    | ⟨3, _⟩ => iblk m c 3 t
    | ⟨4, _⟩ => rblk m c t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ
    = iprop(iprop(owns (c : Thread nD τ) scS fullShare (accS m c t.val t.isLt) ∗ owns (c : Thread nD τ) scM fullShare (accM m c t.val t.isLt)) ∗ (∃ r, prngReg c r)) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = nblk m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = rblk m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_3 (c : Dev nD) (t : Fin cfg0.N) (d) : (dats m 0 c).before 3 t d = iblk m c 3 t :=
  before0_3_of m (dats m 0 c) (A_eq m c 3) (after_3 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
/-- The neighbours' and the ratings' blocks are fetched at every point, over what the buffer held. -/
theorem before_2 (c : Dev nD) (t : Fin cfg0.N) (d) : (dats m 0 c).before 2 t d = nOver m c t d := by
  unfold Dat.before; rw [if_pos (fetch0_2 t)]; rfl
theorem before_4 (c : Dev nD) (t : Fin cfg0.N) (d) : (dats m 0 c).before 4 t d = rOver m c t d := by
  unfold Dat.before; rw [if_pos (fetch0_4 t)]; rfl

/-! ## The body's obligation -/

abbrev ms_0 (t : Fin cfg0.N) : Memref sig .tc .vmem S64x1024 .f32 := win0_0.stage (cfg0.slots t 0)
abbrev ms_1 (t : Fin cfg0.N) : Memref sig .tc .vmem S64x1024 .f32 := win0_1.stage (cfg0.slots t 1)
abbrev ms_2 (t : Fin cfg0.N) : Memref sig .tc .vmem S64x4096 .f32 := win0_2.stage (cfg0.slots t 2)
abbrev ms_3 (t : Fin cfg0.N) : Memref sig .tc .vmem S64x1024 .f32 := win0_3.stage (cfg0.slots t 3)
abbrev ms_4 (t : Fin cfg0.N) : Memref sig .tc .vmem S4096x1024 .f32 := win0_4.stage (cfg0.slots t 4)
abbrev ms_5 (t : Fin cfg0.N) : Memref sig .tc .vmem S10x64 .f32 := win0_5.stage (cfg0.slots t 5)
abbrev ms_6 (t : Fin cfg0.N) : Memref sig .tc .vmem S11x64 .f32 := win0_6.stage (cfg0.slots t 6)
abbrev ms_7 (t : Fin cfg0.N) : Memref sig .tc .vmem S1x65 .f32 := win0_7.stage (cfg0.slots t 7)
abbrev ms_8 (t : Fin cfg0.N) : Memref sig .tc .vmem S1x1 .f32 := win0_8.stage (cfg0.slots t 8)

/-- The staged inputs at a point, the two cut blocks over the contents `d2` and `d4`. -/
abbrev insAt (c : Dev nD) (t : Fin cfg0.N) (d2 : Vec F S64x4096 .f32) (d4 : Vec F S4096x1024 .f32) : sProp 𝕄 :=
  ins c (ms_0 t) (ms_1 t) (ms_2 t) (ms_3 t) (ms_4 t) (ms_5 t) (ms_6 t) (ms_7 t)
    (iblk m c 0 t) (iblk m c 1 t) (nOver m c t d2) (iblk m c 3 t) (rOver m c t d4) (iblk m c 5 t) (iblk m c 6 t) (iblk m c 7 t)

/-- What the body hands back for the result's buffer: untouched before the last point, the result at the last. -/
def outPost (c : Dev nD) (t : Fin cfg0.N) : sProp 𝕄 :=
  if t.val = 24 then owns (c : Thread nD τ) (ms_8 t) fullShare (outAt m c t)
  else iprop(∃ d, owns (c : Thread nD τ) (ms_8 t) fullShare ((dats m 0 c).before 8 t d))

/-- The body at a point, from the accumulators the point before left. -/
theorem body_at (c : Dev nD) (t : Fin cfg0.N) (d2 : Vec F S64x4096 .f32) (d4 : Vec F S4096x1024 .f32) (d8) (K : PUnit → sProp 𝕄) :
    iprop(PhiS m c t.val (Nat.le_of_lt t.isLt) ∗ insAt m c t d2 d4
        ∗ owns (c : Thread nD τ) (ms_8 t) fullShare ((dats m 0 c).before 8 t d8)
        ∗ (iprop((dats m 0 c).Φ t.succ ∗ insAt m c t d2 d4 ∗ outPost m c t) -∗ K ⟨⟩))
      ⊢ wp frame (wpE (defs₀ (F := F)) Variants.none c none) Set.univ (bodyAt0 t) K := by
  obtain ⟨n, hn⟩ := t
  rw [Phi_succ]
  cases n with
  | zero =>
    have h0 : (0 : ℕ) < 24 := by decide
    have h24 : ¬ (0 : ℕ) = 24 := by decide
    unfold PhiS outPost; rw [PhiA_eq, if_neg (show ¬ (0 : ℕ) = 24 by decide)]
    iintro ⟨⟨⟨⟨%s, HS⟩, ⟨%a, HM⟩⟩, Hg⟩, Hi, H8, Hk⟩
    iapply (run_first c (grid0.coords ⟨0, hn⟩) (ms_0 _) _ (ms_1 _) _ (ms_2 _) _ (ms_3 _) _ (ms_4 _) _ (ms_5 _) _ (ms_6 _) _ (ms_7 _) _ (ms_8 _) _ scS _ scM _
      (iblk m c 0 _) (iblk m c 1 _) (nOver m c _ d2) (iblk m c 3 _) (rOver m c _ d4) (iblk m c 5 _) (iblk m c 6 _) (iblk m c 7 _)
      ((cond_first _).mpr rfl) ((cond_full _).mpr h0) (fun h => h24 ((cond_last _).mp h)) _ s a Set.univ K)
    isplitl [Hi]; · iexact Hi
    isplitl [H8]; · iexact H8
    isplitl [HS]; · iexact HS
    isplitl [HM]; · iexact HM
    iintro ⟨Hi, H8, HS, HM⟩
    iapply Hk
    isplitl [HS HM Hg]
    · isplitl [HS HM]
      · isplitl [HS]
        · rw [nOver_eq m c ⟨0, hn⟩ h0]; iexact HS
        rw [nOver_eq m c ⟨0, hn⟩ h0, rOver_eq m c ⟨0, hn⟩ h0]; iexact HM
      iexact Hg
    isplitl [Hi]; · iexact Hi
    iexists d8; iexact H8
  | succ n =>
    have hN : n + 1 < 25 := lt_of_lt_of_eq hn (show cfg0.N = 25 from N_0)
    by_cases h : n + 1 < 24
    · unfold PhiS outPost; rw [if_neg (show ¬ (n + 1 = 24) by omega)]
      iintro ⟨⟨⟨HS, HM⟩, Hg⟩, Hi, H8, Hk⟩
      iapply (run_mid c (grid0.coords ⟨n + 1, hn⟩) (ms_0 _) _ (ms_1 _) _ (ms_2 _) _ (ms_3 _) _ (ms_4 _) _ (ms_5 _) _ (ms_6 _) _ (ms_7 _) _ (ms_8 _) _ scS _ scM _
        (iblk m c 0 _) (iblk m c 1 _) (nOver m c _ d2) (iblk m c 3 _) (rOver m c _ d4) (iblk m c 5 _) (iblk m c 6 _) (iblk m c 7 _)
        (fun h' => absurd ((cond_first _).mp h') (Nat.succ_ne_zero n)) ((cond_full _).mpr h) (fun h' => absurd ((cond_last _).mp h') (by show ¬ n + 1 = 24; omega)) _
        (accS m c n (Nat.lt_of_succ_lt hn)) (accM m c n (Nat.lt_of_succ_lt hn)) Set.univ K)
      isplitl [Hi]; · iexact Hi
      isplitl [H8]; · iexact H8
      isplitl [HS]; · iexact HS
      isplitl [HM]; · iexact HM
      iintro ⟨Hi, H8, HS, HM⟩
      iapply Hk
      isplitl [HS HM Hg]
      · isplitl [HS HM]
        · isplitl [HS]
          · rw [show accS m c (n + 1) hn = _ from if_pos h, ← nOver_eq m c ⟨n + 1, hn⟩ h d2]; iexact HS
          rw [show accM m c (n + 1) hn = _ from if_pos h, ← nOver_eq m c ⟨n + 1, hn⟩ h d2, ← rOver_eq m c ⟨n + 1, hn⟩ h d4]; iexact HM
        iexact Hg
      isplitl [Hi]; · iexact Hi
      iexists d8; iexact H8
    · have hl : n + 1 = 24 := by omega
      have eS : k0_pay10 (k0_pay4 (iblk m c 1 ⟨n + 1, hn⟩)) (tailN (nOver m c ⟨n + 1, hn⟩ d2)) (accS m c n (Nat.lt_of_succ_lt hn)) = accS m c (n + 1) hn := by
        rw [tailN_eq m c ⟨n + 1, hn⟩ hl]; exact (if_neg h).symm
      have eM : k0_pay11 (tailN (nOver m c ⟨n + 1, hn⟩ d2)) (tailR (rOver m c ⟨n + 1, hn⟩ d4)) (accM m c n (Nat.lt_of_succ_lt hn)) = accM m c (n + 1) hn := by
        rw [tailN_eq m c ⟨n + 1, hn⟩ hl, tailR_eq m c ⟨n + 1, hn⟩ hl]; exact (if_neg h).symm
      unfold outPost; rw [if_pos hl]
      unfold outAt; rw [← eS, ← eM]
      unfold PhiS
      iintro ⟨⟨⟨HS, HM⟩, Hg⟩, Hi, H8, Hk⟩
      iapply (run_last c (grid0.coords ⟨n + 1, hn⟩) (ms_0 _) _ (ms_1 _) _ (ms_2 _) _ (ms_3 _) _ (ms_4 _) _ (ms_5 _) _ (ms_6 _) _ (ms_7 _) _ (ms_8 _) _ scS _ scM _
        (iblk m c 0 _) (iblk m c 1 _) (nOver m c _ d2) (iblk m c 3 _) (rOver m c _ d4) (iblk m c 5 _) (iblk m c 6 _) (iblk m c 7 _)
        (fun h' => absurd ((cond_first _).mp h') (Nat.succ_ne_zero n)) (fun h' => absurd ((cond_full _).mp h') h) ((cond_last _).mpr hl) _
        (accS m c n (Nat.lt_of_succ_lt hn)) (accM m c n (Nat.lt_of_succ_lt hn)) Set.univ K)
      isplitl [Hi]; · iexact Hi
      isplitl [H8]; · iexact H8
      isplitl [HS]; · iexact HS
      isplitl [HM]; · iexact HM
      iintro ⟨Hi, H8, HS, HM⟩
      iapply Hk
      isplitl [HS HM Hg]
      · isplitl [HS HM]
        · isplitl [HS]; · iexact HS
          iexact HM
        iexact Hg
      isplitl [Hi]; · iexact Hi
      iexact H8

/-- The body table's row at a point is the body. -/
theorem body_row (t : Fin cfg0.N) : defs₀ (F := F) .tc cfg0.body (cfg0.bodyArgs t (cfg0.slots t)) = bodyAt0 t := by
  unfold defs₀; rw [Defs.onTc_tc]

/-- The result's buffer as the obligation asks for it. -/
theorem outPost_leaves (c : Dev nD) (t : Fin cfg0.N) : outPost m c t ⊢ ((dats m 0 c).leaves 8 t : sProp 𝕄) := by
  have hN : t.val < 25 := lt_of_lt_of_eq t.isLt (show cfg0.N = 25 from N_0)
  refine BIBase.Entails.trans ?_ (Dat.leaves_intro (dats m 0 c) 8 t)
  unfold outPost
  by_cases h : t.val = 24
  · rw [if_pos h, show (dats m 0 c).leavesExact 8 t = owns (c : Thread nD τ) (ms_8 t) fullShare ((dats m 0 c).after 8 t) from by
      unfold Dat.leavesExact; rw [live_out t h], after_8]
  · rw [if_neg h, Dat.leavesExact_idle (dats m 0 c) 8 t (idle_out t (by omega)) (noFlush_out t (by omega))]

theorem body_triple (c : Dev nD) (t : Fin cfg0.N) :
    iprop((dats m 0 c).Φ t.castSucc ∗ (dats m 0 c).owesAt () t.castSucc
      ∗ (∃ d, owns (c : Thread nD τ) (ms_0 t) fullShare ((dats m 0 c).before 0 t d))
      ∗ (∃ d, owns (c : Thread nD τ) (ms_1 t) fullShare ((dats m 0 c).before 1 t d))
      ∗ (∃ d, owns (c : Thread nD τ) (ms_2 t) fullShare ((dats m 0 c).before 2 t d))
      ∗ (∃ d, owns (c : Thread nD τ) (ms_3 t) fullShare ((dats m 0 c).before 3 t d))
      ∗ (∃ d, owns (c : Thread nD τ) (ms_4 t) fullShare ((dats m 0 c).before 4 t d))
      ∗ (∃ d, owns (c : Thread nD τ) (ms_5 t) fullShare ((dats m 0 c).before 5 t d))
      ∗ (∃ d, owns (c : Thread nD τ) (ms_6 t) fullShare ((dats m 0 c).before 6 t d))
      ∗ (∃ d, owns (c : Thread nD τ) (ms_7 t) fullShare ((dats m 0 c).before 7 t d))
      ∗ (∃ d, owns (c : Thread nD τ) (ms_8 t) fullShare ((dats m 0 c).before 8 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (ms_0 t) fullShare (iblk m c 0 t)
          ∗ owns (c : Thread nD τ) (ms_1 t) fullShare (iblk m c 1 t)
          ∗ (∃ d, owns (c : Thread nD τ) (ms_2 t) fullShare (nOver m c t d))
          ∗ owns (c : Thread nD τ) (ms_3 t) fullShare (iblk m c 3 t)
          ∗ (∃ d, owns (c : Thread nD τ) (ms_4 t) fullShare (rOver m c t d))
          ∗ owns (c : Thread nD τ) (ms_5 t) fullShare (iblk m c 5 t)
          ∗ owns (c : Thread nD τ) (ms_6 t) fullShare (iblk m c 6 t)
          ∗ owns (c : Thread nD τ) (ms_7 t) fullShare (iblk m c 7 t)
          ∗ outPost m c t)) := by
  simp only [before_0, before_1, before_2, before_3, before_4, before_5, before_6, before_7]
  rw [show (dats m 0 c).owesAt () t.succ = (dats m 0 c).owesAt () t.castSucc from rfl, Phi_castSucc]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_at m c t d2 d4 d8)
  isplitl [HP]; · iexact HP
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  unfold insAt ins
  iintro ⟨HP, ⟨H0, H1, H2, H3, H4, H5, H6, H7⟩, H8⟩
  isplitl [HP]; · iexact HP
  isplitl [Ho]; · iexact Ho
  isplitl [H0]; · iexact H0
  isplitl [H1]; · iexact H1
  isplitl [H2]; · iexists d2; iexact H2
  isplitl [H3]; · iexact H3
  isplitl [H4]; · iexists d4; iexact H4
  isplitl [H5]; · iexact H5
  isplitl [H6]; · iexact H6
  isplitl [H7]; · iexact H7
  iexact H8

theorem leaves_live (c : Dev nD) (w : Fin cfg0.W) (t : Fin cfg0.N) (hi : cfg0.idle w (grid0.coords t) = false) :
    owns (c : Thread nD τ) ((cfg0.win w).stage (cfg0.slots t w)) fullShare ((dats m 0 c).after w t) ⊢ ((dats m 0 c).leaves w t : sProp 𝕄) := by
  refine BIBase.Entails.trans ?_ (Dat.leaves_intro (dats m 0 c) w t)
  unfold Dat.leavesExact; rw [hi]

/-- The neighbours' buffer as the obligation asks for it: the fetched part, over anything. -/
theorem leaves_N (c : Dev nD) (t : Fin cfg0.N) :
    iprop(∃ d, owns (c : Thread nD τ) (ms_2 t) fullShare (nOver m c t d)) ⊢ ((dats m 0 c).leaves 2 t : sProp 𝕄) := by
  iintro ⟨%d, H⟩
  iexists d
  rw [after_2]
  unfold nblk nOver
  rw [(cfg0.win 2).cut_fill]
  iexact H
theorem leaves_R (c : Dev nD) (t : Fin cfg0.N) :
    iprop(∃ d, owns (c : Thread nD τ) (ms_4 t) fullShare (rOver m c t d)) ⊢ ((dats m 0 c).leaves 4 t : sProp 𝕄) := by
  iintro ⟨%d, H⟩
  iexists d
  rw [after_4]
  unfold rblk rOver
  rw [(cfg0.win 4).cut_fill]
  iexact H

theorem body_obligation (c : Dev nD) : BodyObligationLoose (dats (F := F) m 0 c) (defs₀ (F := F)) Variants.none () Set.univ := fun t => by
  rw [bigSep_W0, bigSep_W0, body_row]
  refine triple_restated (body_triple m c t) rfl .rfl fun _ => ?_
  iintro ⟨HP, Ho, H0, H1, H2, H3, H4, H5, H6, H7, H8⟩
  isplitl [HP]; · iexact HP
  isplitl [Ho]; · iexact Ho
  isplitl [H0]; · iapply (leaves_live m c 0 t rfl); iexact H0
  isplitl [H1]; · iapply (leaves_live m c 1 t rfl); iexact H1
  isplitl [H2]; · iapply (leaves_N m c t); iexact H2
  isplitl [H3]; · iapply (leaves_live m c 3 t rfl); iexact H3
  isplitl [H4]; · iapply (leaves_R m c t); iexact H4
  isplitl [H5]; · iapply (leaves_live m c 5 t rfl); iexact H5
  isplitl [H6]; · iapply (leaves_live m c 6 t rfl); iexact H6
  isplitl [H7]; · iapply (leaves_live m c 7 t rfl); iexact H7
  iapply (outPost_leaves m c t); iexact H8

/-! ## The run -/

theorem hin (c : Dev nD) : Pipeline.ΦA spec0 c ⊢ (dats m 0 c).Φ 0 := .rfl

theorem hout (c : Dev nD) : (dats m 0 c).Φ (Fin.last cfg0.N) ⊢ Pipeline.ΦA spec0 c := by
  have e : ∀ (n : ℕ) (h : n ≤ cfg0.N), n ≠ 0 → PhiS m c n h ⊢ (Pipeline.ΦA spec0 c : sProp 𝕄) := by
    intro n h hn
    obtain ⟨k, rfl⟩ := Nat.exists_eq_succ_of_ne_zero hn
    unfold PhiS; rw [PhiA_eq]
    iintro ⟨⟨HS, HM⟩, Hg⟩
    isplitl [HS HM]
    · isplitl [HS]
      · iexists _; iexact HS
      iexists _; iexact HM
    iexact Hg
  exact e cfg0.N le_rfl (by rw [show cfg0.N = 25 from N_0]; decide)

set_option backward.isDefEq.respectTransparency.types false in
set_option maxHeartbeats 800000 in
/-- Every execution ends, the arrays and the other buffers as the proof data say, every semaphore counter at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as they began, and every semaphore counter is at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Run

end
-- ==== Proof.Frames.lean ====
/-
  The frame claims and the claim that the idealization changes nothing but named constants.

  The two kernels run and end as Proof/KernelRun.lean and Proof/IdealRun.lean prove. The reference is a chain of host
  operations with no semaphore.
-/
module

public import proofs.«01_k».proof.Defs
public import proofs.«01_k».proof.Proof.KernelRun
public import proofs.«01_k».proof.Proof.IdealRun
public import proofs.«01_k».proof.Proof.Gen.ReferenceIdeal.Run
public import Idealize.ShloMosaic.Lib.Quiescent

@[expose] public section

noncomputable section

namespace Cert.Proof

open Idealize.ShloMosaic Idealize.SL.Sem

/-- The kernel as given ends with its arguments unchanged and its counters at zero. -/
theorem frame_kernel : quiescent_Kernel := fun m g _ => Cert.Kernel.Run.quiescent m g
/-- So does the kernel over the extended reals, -/
theorem frame_ideal : quiescent_KernelIdeal := fun m g _ => Cert.KernelIdeal.Run.quiescent m g
/-- and so does the reference over the extended reals. -/
theorem frame_reference : quiescent_ReferenceIdeal := fun m g _ =>
  (θ_run _ _ _).mono (fun r h => ⟨fun c => (h c).2, sem_eq_zero_of_no_sems (by decide) r.2⟩)
    (Cert.ReferenceIdeal.Value.run (F := Ideal) m g)

/-- The two named constants are the reals they were rounded from. -/
theorem preserves : preserves_Kernel_KernelIdeal :=
  ⟨IdealRules.named_const.statement Cert.KernelIdeal.κ "inv_temp_log2e" .f32 0x3E93BB63#32 _ rfl,
    IdealRules.named_const.statement Cert.KernelIdeal.κ "inv_temp" .f32 0x3E4CCCCD#32 _ rfl⟩

end Cert.Proof

end
-- ==== Proof.Spec.lean ====
/-
  What the reference and the kernel compute, written as plain functions of the arguments over the extended reals.

  `t`, `p` are the target's and the present embedding (1024 rows of 64), `n` the neighbours' (100000 rows of 64), `r` the
  ratings (1024 rows of 100000), `g` the cluster centres, `w1`, `b1`, `w2`, `b2` the two layers.
-/
module

public import Idealize.ShloMosaic.PureOps.Ideal

@[expose] public section

noncomputable section

namespace Cert.Spec

open Idealize.ShloMosaic

/-- The small constant both programs add to a divisor, -/
abbrev eps : EReal := Ideal.ofBits .f32 0x322BCC77#32
/-- the temperature, and -/
abbrev five : EReal := Ideal.ofBits .f32 0x40A00000#32
/-- the number of rows, as the constants the reference holds them in. -/
abbrev rows : EReal := Ideal.ofBits .f32 0x44800000#32
/-- Where a row's maximum starts. -/
abbrev lowest : EReal := Ideal.ofBits .f32 0xFF800000#32

/-- The products of an embedding with the cluster centres, -/
def toCluster (g : Fin 10 → Fin 64 → EReal) (x : Fin 64 → EReal) (e : Fin 10) : EReal := ∑ d, x d * g e d
/-- their maximum, -/
def top (g : Fin 10 → Fin 64 → EReal) (x : Fin 64 → EReal) : EReal := Finset.univ.fold max lowest fun e => toCluster g x e
/-- and their softmax. -/
def soft (g : Fin 10 → Fin 64 → EReal) (x : Fin 64 → EReal) (e : Fin 10) : EReal :=
  Ideal.div (Ideal.exp (toCluster g x e - top g x)) (∑ e', Ideal.exp (toCluster g x e' - top g x))

/-- The state: the squared difference of the two softmaxes. -/
def state (g : Fin 10 → Fin 64 → EReal) (t p : Fin 64 → EReal) (e : Fin 10) : EReal :=
  (soft g t e - soft g p e) * (soft g t e - soft g p e)
/-- The hidden layer, -/
def layer (g : Fin 10 → Fin 64 → EReal) (w1 : Fin 64 → Fin 10 → EReal) (b1 : Fin 64 → EReal) (t p : Fin 64 → EReal) (j : Fin 64) : EReal :=
  max (∑ e, state g t p e * w1 j e + b1 j) 0
/-- the layer over it, -/
def score (g : Fin 10 → Fin 64 → EReal) (w1 : Fin 64 → Fin 10 → EReal) (b1 w2 : Fin 64 → EReal) (b2 : EReal) (t p : Fin 64 → EReal) : EReal :=
  ∑ j, layer g w1 b1 t p j * w2 j + b2
/-- and the weight of a row before the weights are scaled. -/
def softplus (z : EReal) : EReal :=
  max z 0 + Ideal.log1p (Ideal.exp (-FloatOps.absf (F := Ideal) (φ := .f32) z))

/-- The reference's similarity of a target and a neighbour, -/
def logit (t : Fin 64 → EReal) (n : Fin 64 → EReal) : EReal := Ideal.div (∑ d, t d * n d) five
/-- and its loss of a row. -/
def lossRef (n : Fin 100000 → Fin 64 → EReal) (t : Fin 64 → EReal) (r : Fin 100000 → EReal) : EReal :=
  Ideal.div (∑ k, Ideal.log (Ideal.div (Ideal.exp (logit t (n k))) (∑ k', Ideal.exp (logit t (n k')))) * r k) (∑ k, r k + eps)
/-- The reference's result, from the rows' losses and weights. -/
def meanRef (l w : Fin 1024 → EReal) : EReal :=
  -Ideal.div (∑ b, l b * (Ideal.div (w b) (∑ b', w b' + eps) * rows)) rows

/-- The kernel's loss of a row, from the named constants and the accumulated sums: `s` of exponentials, `a` the
    ratings' sums of the neighbours, `q` the ratings' sum. -/
def lossKer (κ₁ : EReal) (t a : Fin 64 → EReal) (s q : EReal) : EReal :=
  Ideal.div ((∑ d, t d * a d) * κ₁ - Ideal.log s * q) (q + eps)
/-- The kernel's result, from the rows' losses and weights. -/
def meanKer (l w : Fin 1024 → EReal) : EReal := Ideal.div (0 - ∑ b, l b * w b) (∑ b, w b + eps)

end Cert.Spec

end
-- ==== Proof.Algebra.lean ====
/-
  The kernel's losses and mean are the reference's, over the extended reals: with the target and the neighbours finite, and
  whatever the ratings.
-/
module

public import proofs.«01_k».proof.Proof.Spec

@[expose] public section

noncomputable section

namespace Cert.Spec

open Idealize.ShloMosaic

/-! ## The constants -/

theorem five_eq : five = ((5 : ℝ) : EReal) := by
  simp [five, Ideal.ofBits, Ideal.ieee, -EReal.coe_mul]
  norm_num
theorem rows_eq : rows = ((1024 : ℝ) : EReal) := by
  simp [rows, Ideal.ofBits, Ideal.ieee, -EReal.coe_mul]
  norm_num
theorem eps_eq : ∃ e : ℝ, 0 < e ∧ eps = (e : EReal) := by
  refine ⟨(2 ^ 23 + 2870391 : ℕ) * (2 : ℝ) ^ (-50 : ℤ), by positivity, ?_⟩
  simp [eps, Ideal.ofBits, Ideal.ieee, zpow_neg]

/-! ## Sums -/

/-- A finite sum of reals is the sum in the reals. -/
theorem coe_sum {ι : Type} [Fintype ι] (f : ι → ℝ) : ∑ i, (f i : EReal) = ((∑ i, f i : ℝ) : EReal) := by
  classical
  refine Finset.induction_on (motive := fun s => ∑ i ∈ s, (f i : EReal) = ((∑ i ∈ s, f i : ℝ) : EReal)) _ (by simp) fun a s h ih => ?_
  rw [Finset.sum_insert h, Finset.sum_insert h, ih, EReal.coe_add]

/-- A sum that is finite has finite terms only. -/
theorem finite_of_sum {ι : Type} [Fintype ι] (f : ι → EReal) (ht : ∑ i, f i ≠ ⊤) (hb : ∑ i, f i ≠ ⊥) (i : ι) : ∃ x : ℝ, f i = x := by
  classical
  have H := Finset.add_sum_erase Finset.univ f (Finset.mem_univ i)
  rw [← H] at ht hb
  obtain ⟨h1, h2⟩ := EReal.add_ne_bot_iff.mp hb
  refine ⟨(f i).toReal, (EReal.coe_toReal (fun h => ht ?_) h1).symm⟩
  rw [h, EReal.top_add_of_ne_bot h2]

/-- A positive real comes out of a sum. -/
theorem sum_mul_coe {ι : Type} [Fintype ι] (f : ι → EReal) (p : ℝ) (hp : 0 ≤ p) : ∑ i, f i * (p : EReal) = (∑ i, f i) * p := by
  classical
  refine Finset.induction_on (motive := fun s => ∑ i ∈ s, f i * (p : EReal) = (∑ i ∈ s, f i) * p) _ (by simp) fun a s h ih => ?_
  rw [Finset.sum_insert h, Finset.sum_insert h, ih,
    EReal.right_distrib_of_nonneg_of_ne_top (EReal.coe_nonneg.mpr hp) (EReal.coe_ne_top p)]

/-- A quotient by an infinity is zero. -/
theorem div_infinite (x y : EReal) (h : y = ⊤ ∨ y = ⊥) : Ideal.div x y = 0 := by
  unfold Ideal.div
  rcases h with rfl | rfl <;> simp

/-! ## The weights are not negative -/

theorem exp_nonneg (x : EReal) : 0 ≤ Ideal.exp x := by
  induction x with
  | bot => exact le_rfl
  | top => exact le_top
  | coe x => exact EReal.coe_nonneg.mpr (Real.exp_pos x).le
theorem log_nonneg (x : EReal) (h : 1 ≤ x) : 0 ≤ Ideal.log x := by
  induction x with
  | bot => exact absurd (le_bot_iff.mp h) (EReal.coe_ne_bot 1)
  | top => exact le_top
  | coe x =>
    have hx : (1 : ℝ) ≤ x := by exact_mod_cast h
    rw [Ideal.log_coe, if_neg (by linarith)]
    exact EReal.coe_nonneg.mpr (Real.log_nonneg hx)
theorem softplus_nonneg (z : EReal) : 0 ≤ softplus z := by
  unfold softplus Ideal.log1p
  exact add_nonneg (le_max_right _ _) (log_nonneg _ (le_add_of_nonneg_right (exp_nonneg _)))

/-! ## The mean -/

/-- The kernel divides the weighted sum once; the reference scales every weight, and the sum, first. -/
theorem mean_eq (l w : Fin 1024 → EReal) (hw : ∀ b, 0 ≤ w b) : meanKer l w = meanRef l w := by
  obtain ⟨e, he, ee⟩ := eps_eq
  unfold meanKer meanRef
  have hS : 0 ≤ ∑ b, w b := Finset.sum_nonneg fun b _ => hw b
  rw [rows_eq, ee, Ideal.div_coe (by norm_num : (1024 : ℝ) ≠ 0)]
  by_cases ht : ∑ b, w b = ⊤
  · have h : (∑ b, w b) + (e : EReal) = ⊤ := by rw [ht, EReal.top_add_coe]
    rw [h, div_infinite _ _ (Or.inl rfl)]
    simp only [div_infinite _ _ (Or.inl rfl), zero_mul, mul_zero, Finset.sum_const_zero, neg_zero]
  · obtain ⟨s, hs⟩ : ∃ s : ℝ, ∑ b, w b = s := ⟨_, (EReal.coe_toReal ht (ne_bot_of_le_ne_bot (by simp) hS)).symm⟩
    have hs0 : 0 ≤ s := by rw [hs] at hS; exact EReal.coe_nonneg.mp hS
    have hp : 0 < s + e := by linarith
    rw [hs, ← EReal.coe_add, Ideal.div_coe hp.ne']
    simp only [Ideal.div_coe hp.ne', ← mul_assoc]
    rw [sum_mul_coe _ _ (by norm_num), sum_mul_coe _ _ (by positivity), zero_sub, EReal.neg_mul, mul_assoc _ ((1024 : ℝ) : EReal), ← EReal.coe_mul]
    norm_num

/-! ## The loss of a row -/

theorem loss_eq (n : Fin 100000 → Fin 64 → EReal) (t : Fin 64 → EReal) (r : Fin 100000 → EReal)
    (hn : ∀ k d, ∃ x : ℝ, n k d = x) (ht : ∀ d, ∃ x : ℝ, t d = x) :
    lossKer ((1 / 5 : ℝ) : EReal) t (fun d => ∑ k, n k d * r k)
      (∑ k, Ideal.exp2 (∑ d, n k d * (t d * (((5 * Real.log 2)⁻¹ : ℝ) : EReal)))) (∑ k, r k) = lossRef n t r := by
  obtain ⟨e, he, ee⟩ := eps_eq
  unfold lossKer lossRef
  by_cases hq : (∑ k, r k = ⊤ ∨ ∑ k, r k = ⊥)
  · have h : (∑ k, r k) + eps = ⊤ ∨ (∑ k, r k) + eps = ⊥ := by
      rw [ee]
      rcases hq with h | h <;> rw [h]
      · exact Or.inl (EReal.top_add_coe e)
      · exact Or.inr (EReal.bot_add _)
    rw [div_infinite _ _ h, div_infinite _ _ h]
  · obtain ⟨hq1, hq2⟩ := not_or.mp hq
    choose R hR using finite_of_sum r hq1 hq2
    choose N hN using hn
    choose T hT using ht
    have hl (k : Fin 100000) : logit t (n k) = (((∑ d, T d * N k d) * (1 / 5) : ℝ) : EReal) := by
      unfold logit
      simp only [hT, hN, ← EReal.coe_mul, coe_sum]
      rw [five_eq, Ideal.div_coe (by norm_num), ← EReal.coe_mul]
    have hx (k : Fin 100000) : Ideal.exp2 (∑ d, n k d * (t d * (((5 * Real.log 2)⁻¹ : ℝ) : EReal)))
        = ((Real.exp ((∑ d, T d * N k d) * (1 / 5)) : ℝ) : EReal) := by
      simp only [hT, hN, ← EReal.coe_mul, coe_sum, Ideal.exp2_coe]
      refine congrArg _ ((Real.rpow_def_of_pos (by norm_num) _).trans (congrArg Real.exp ?_))
      have h2 : Real.log 2 ≠ 0 := (Real.log_pos (by norm_num)).ne'
      have : ∀ d, N k d * (T d * (5 * Real.log 2)⁻¹) = (T d * N k d) * (5 * Real.log 2)⁻¹ := fun d => by ring
      simp only [this, ← Finset.sum_mul]
      field_simp
    have hpos : 0 < ∑ k, Real.exp ((∑ d, T d * N k d) * (1 / 5)) := Finset.sum_pos (fun k _ => Real.exp_pos _) Finset.univ_nonempty
    simp only [hx, hl, Ideal.exp_coe, coe_sum, Ideal.div_coe hpos.ne', ← EReal.coe_mul, Ideal.log_coe, if_neg hpos.not_ge]
    refine congrArg₂ Ideal.div ?_ rfl
    have hlog (k : Fin 100000) : ¬ Real.exp ((∑ d, T d * N k d) * (1 / 5)) * (1 / ∑ k, Real.exp ((∑ d, T d * N k d) * (1 / 5))) ≤ 0 :=
      not_le.mpr (mul_pos (Real.exp_pos _) (one_div_pos.mpr hpos))
    simp only [if_neg (hlog _), hT, hN, hR, ← EReal.coe_mul, coe_sum, ← EReal.coe_sub]
    refine congrArg _ ?_
    simp only [Real.log_mul (Real.exp_pos _).ne' (one_div_pos.mpr hpos).ne', Real.log_exp]
    rw [one_div (∑ k : Fin 100000, Real.exp _), Real.log_inv]
    generalize Real.log (∑ k : Fin 100000, Real.exp _) = L
    simp only [← sub_eq_add_neg, sub_mul, Finset.sum_sub_distrib, ← Finset.mul_sum]
    refine congrArg (· - L * ∑ k, R k) ?_
    simp only [Finset.mul_sum, Finset.sum_mul]
    rw [Finset.sum_comm]
    exact Finset.sum_congr rfl fun k _ => Finset.sum_congr rfl fun d _ => by ring

end Cert.Spec

end
-- ==== Proof.RefValue.lean ====
/-
  The reference's result read as the plain functions of Proof/Spec.lean.
-/
module

public import proofs.«01_k».proof.Proof.Spec
public import proofs.«01_k».proof.Proof.Gen.ReferenceIdeal.Run
public import Idealize.ShloMosaic.Lib.Pointwise

@[expose] public section

noncomputable section

namespace Cert.Proof

open Idealize.ShloMosaic Cert.ReferenceIdeal Cert.ReferenceIdeal.Gen Cert.Spec

/-- A maximum is at least where it starts. -/
theorem max_fold {n : ℕ} (b : EReal) (f : Fin n → EReal) :
    max b ((Finset.univ : Finset (Fin n)).fold max b f) = (Finset.univ : Finset (Fin n)).fold max b f :=
  max_eq_right (Finset.le_fold_max _ |>.mpr (Or.inl le_rfl))

variable (m : (ℓ : Loc nD τ sig) → Buf (Elt Ideal) ℓ) (c : Dev nD)

/-- The target's embeddings. -/
abbrev argT (b : Fin 1024) (d : Fin 64) : EReal := m ((c.tc : Thread nD τ).loc main_arg0) (ix2 b d)
/-- The neighbours' embeddings. -/
abbrev argN (k : Fin 100000) (d : Fin 64) : EReal := m ((c.tc : Thread nD τ).loc main_arg1) (ix2 k d)
/-- The embeddings the weight is scored on. -/
abbrev argP (b : Fin 1024) (d : Fin 64) : EReal := m ((c.tc : Thread nD τ).loc main_arg2) (ix2 b d)
/-- The ratings. -/
abbrev argR (b : Fin 1024) (k : Fin 100000) : EReal := m ((c.tc : Thread nD τ).loc main_arg3) (ix2 b k)
/-- The cluster centres. -/
abbrev argG (e : Fin 10) (d : Fin 64) : EReal := m ((c.tc : Thread nD τ).loc main_arg4) (ix2 e d)
/-- The score's first matrix. -/
abbrev argW1 (j : Fin 64) (e : Fin 10) : EReal := m ((c.tc : Thread nD τ).loc main_arg5) (ix2 j e)
/-- Its first bias. -/
abbrev argB1 (j : Fin 64) : EReal := m ((c.tc : Thread nD τ).loc main_arg6) (ix1 j)
/-- Its second matrix, of one row. -/
abbrev argW2 (j : Fin 64) : EReal := m ((c.tc : Thread nD τ).loc main_arg7) (ix2 0 j)
/-- Its second bias. -/
abbrev argB2 : EReal := m ((c.tc : Thread nD τ).loc main_arg8) (ix1 0)

set_option maxRecDepth 8192 in
set_option maxHeartbeats 2000000 in
/-- The reference's result is the mean of the rows' losses, weighed. -/
theorem ref_apply : Cert.ReferenceIdeal.Value.res_main_v66 m c ix0
    = meanRef (fun b => lossRef (argN m c) (argT m c b) (argR m c b))
        (fun b => softplus (score (argG m c) (argW1 m c) (argB1 m c) (argW2 m c) (argB2 m c) (argT m c b) (argP m c b))) := by
  pointwise [Cert.ReferenceIdeal.Value.res_main_v66]
  simp only [ne_eq, not_true_eq_false, if_false, max_fold, meanRef, lossRef, softplus, score, layer, state, soft, top, toCluster, logit, argT, argN, argP,
    argR, argG, argW1, argB1, argW2, argB2, eps, five, rows, lowest]

end Cert.Proof

end
-- ==== Proof.IdealPay.lean ====
/-
  What the kernel's body computes, read at an index over the extended reals.
-/
module

public import proofs.«01_k».proof.Proof.Spec
public import proofs.«01_k».proof.Proof.RefValue
public import proofs.«01_k».proof.Proof.IdealBody
public import Idealize.ShloMosaic.Lib.Pointwise

@[expose] public section

noncomputable section

namespace Cert.Proof

open Idealize.ShloMosaic Cert.KernelIdeal Cert.KernelIdeal.Gen Cert.KernelIdeal.Run Cert.Spec

variable (x0 x3 : Vec Ideal S64x1024 .f32) (x5 : Vec Ideal S10x64 .f32) (x6 : Vec Ideal S11x64 .f32) (x7 : Vec Ideal S1x65 .f32)
  (s : Vec Ideal S1x1024 .f32) (a : Vec Ideal S65x1024 .f32)

theorem pay1_apply (b : Fin 1024) : k0_pay1 (F := Ideal) (ix2 0 b) = 0 := by pointwise [k0_pay1]
theorem pay2_apply (e : Fin 65) (b : Fin 1024) : k0_pay2 (F := Ideal) (ix2 e b) = 0 := by pointwise [k0_pay2]

/-- The hidden layers of a row, its score. -/
theorem pay16_apply (b : Fin 1024) : k0_pay16 (k0_pay3 x0) x5 x3 x6 x7 (ix2 0 b)
    = score (fun e d => x5 (ix2 e d)) (fun j e => x6 (ix2 ⟨e.val, by omega⟩ j)) (fun j => x6 (ix2 10 j))
        (fun j => x7 (ix2 0 ⟨j.val, by omega⟩)) (x7 (ix2 0 64)) (fun d => x0 (ix2 d b)) (fun d => x3 (ix2 d b)) := by
  pointwise [k0_pay16, k0_pay3]
  simp only [max_fold, score, layer, state, soft, top, toCluster, lowest, Finset.univ_unique, Finset.sum_singleton,
    mul_comm (x5 _), mul_comm (x6 _), mul_comm (x7 _)]

theorem pay17_apply (b : Fin 1024) : k0_pay17 (k0_pay3 x0) x5 x3 x6 x7 (ix2 0 b)
    = max (k0_pay16 (k0_pay3 x0) x5 x3 x6 x7 (ix2 0 b)) 0 := by
  pointwise [k0_pay17]
theorem pay18_apply (b : Fin 1024) : k0_pay18 (F := Ideal) (ix2 0 b) = 0 := by pointwise [k0_pay18]

theorem pay15_apply (b : Fin 1024) : k0_pay15 (k0_pay12 a) (k0_pay13 (k0_pay3 x0) s a) (k0_pay14 (F := Ideal)) (ix2 0 b)
    = lossKer ((1 / 5 : ℝ) : EReal) (fun d => x0 (ix2 d b)) (fun d => a (ix2 ⟨d.val, by omega⟩ b)) (s (ix2 0 b)) (a (ix2 64 b)) := by
  pointwise [k0_pay15, k0_pay12, k0_pay13, k0_pay14, k0_pay3, lossKer]
  rfl

/-- What the last point stores: the mean of the rows' losses, weighed. -/
theorem outV_apply : outV x0 x3 x5 x6 x7 s a (ix2 0 0)
    = meanKer
        (fun b => lossKer ((1 / 5 : ℝ) : EReal) (fun d => x0 (ix2 d b)) (fun d => a (ix2 ⟨d.val, by omega⟩ b)) (s (ix2 0 b)) (a (ix2 64 b)))
        (fun b => softplus (score (fun e d => x5 (ix2 e d)) (fun j e => x6 (ix2 ⟨e.val, by omega⟩ j)) (fun j => x6 (ix2 10 j))
          (fun j => x7 (ix2 0 ⟨j.val, by omega⟩)) (x7 (ix2 0 64)) (fun d => x0 (ix2 d b)) (fun d => x3 (ix2 d b)))) := by
  unfold outV
  pointwise [k0_pay8]
  simp only [ne_eq, not_true_eq_false, if_false, pay15_apply, pay16_apply, pay17_apply, pay18_apply, meanKer, softplus, eps, sub_zero,
    zero_sub]

/-- A point before the last adds its neighbours' exponentials, -/
theorem pay6_apply (x1 : Vec Ideal S64x1024 .f32) (x2 : Vec Ideal S64x4096 .f32) (b : Fin 1024) : k0_pay6 x1 x2 s (ix2 0 b)
    = s (ix2 0 b) + ∑ k : Fin 4096, Ideal.exp2 (∑ d : Fin 64, x2 (ix2 d k) * (x1 (ix2 d b) * (((5 * Real.log 2)⁻¹ : ℝ) : EReal))) := by
  pointwise [k0_pay6, k0_pay5, k0_pay4]
  rfl
/-- and its neighbours and ones, weighed by the ratings. -/
theorem pay7_apply (x2 : Vec Ideal S64x4096 .f32) (x4 : Vec Ideal S4096x1024 .f32) (e : Fin 65) (b : Fin 1024) : k0_pay7 x2 x4 a (ix2 e b)
    = a (ix2 e b) + ∑ k : Fin 4096, (if h : e.val < 64 then x2 (ix2 ⟨e.val, h⟩ k) else 1) * x4 (ix2 k b) := by
  pointwise [k0_pay7, k0_pay5]
/-- So does the last point, over the neighbours that are left. -/
theorem pay10_apply (x1 : Vec Ideal S64x1024 .f32) (x2 : Vec Ideal S64x1696 .f32) (b : Fin 1024) : k0_pay10 (k0_pay4 x1) x2 s (ix2 0 b)
    = s (ix2 0 b) + ∑ k : Fin 1696, Ideal.exp2 (∑ d : Fin 64, x2 (ix2 d k) * (x1 (ix2 d b) * (((5 * Real.log 2)⁻¹ : ℝ) : EReal))) := by
  pointwise [k0_pay10, k0_pay9, k0_pay4]
  rfl
theorem pay11_apply (x2 : Vec Ideal S64x1696 .f32) (x4 : Vec Ideal S1696x1024 .f32) (e : Fin 65) (b : Fin 1024) : k0_pay11 x2 x4 a (ix2 e b)
    = a (ix2 e b) + ∑ k : Fin 1696, (if h : e.val < 64 then x2 (ix2 ⟨e.val, h⟩ k) else 1) * x4 (ix2 k b) := by
  pointwise [k0_pay11, k0_pay9]

end Cert.Proof

end
-- ==== Proof.IdealBlocks.lean ====
/-
  The blocks the kernel is handed, as entries of the arguments.
-/
module

public import proofs.«01_k».proof.Proof.IdealPay
public import proofs.«01_k».proof.Proof.IdealRun
public import Idealize.ShloMosaic.Lib.Pipeline.ValueKit

@[expose] public section

set_option maxRecDepth 16384

noncomputable section

namespace Cert.Proof

open Cert.KernelIdeal Cert.KernelIdeal.Gen Cert.KernelIdeal.Run
open Idealize.ShloMosaic Idealize.ShloMosaic.TcCoe Idealize.ShloMosaic.Tactic Idealize.ShloMosaic.Pipeline

variable (m : (ℓ : Loc nD τ sig) → Buf (Elt Ideal) ℓ) (c : Dev nD)

/-! ## What the host hands the kernel -/

/-- Each array of the launch, entry by entry. -/
theorem arrays_apply :
    (∀ (d : Fin 64) (b : Fin 1024), V m c main_v0 (ix2 d b) = m ((c.tc : Thread nD τ).loc main_arg0) (ix2 b d))
    ∧ (∀ (d : Fin 64) (b : Fin 1024), V m c main_v1 (ix2 d b) = m ((c.tc : Thread nD τ).loc main_arg0) (ix2 b d))
    ∧ (∀ (d : Fin 64) (k : Fin 100000), V m c main_v2 (ix2 d k) = m ((c.tc : Thread nD τ).loc main_arg1) (ix2 k d))
    ∧ (∀ (d : Fin 64) (b : Fin 1024), V m c main_v3 (ix2 d b) = m ((c.tc : Thread nD τ).loc main_arg2) (ix2 b d))
    ∧ (∀ (k : Fin 100000) (b : Fin 1024), V m c main_v4 (ix2 k b) = m ((c.tc : Thread nD τ).loc main_arg3) (ix2 b k))
    ∧ (∀ (e : Fin 11) (j : Fin 64), V m c main_v7 (ix2 e j)
        = if h : e.val < 10 then m ((c.tc : Thread nD τ).loc main_arg5) (ix2 j ⟨e.val, h⟩) else m ((c.tc : Thread nD τ).loc main_arg6) (ix1 j))
    ∧ (∀ j : Fin 65, V m c main_v9 (ix2 0 j)
        = if h : j.val < 64 then m ((c.tc : Thread nD τ).loc main_arg7) (ix2 0 ⟨j.val, h⟩) else m ((c.tc : Thread nD τ).loc main_arg8) (ix1 0)) := by
  unfold V V0
  simp only [hostOps0, List.flatten_cons, List.flatten_nil, List.append_nil, List.cons_append, List.nil_append]
  refine ⟨fun d b => ?_, fun d b => ?_, fun d k => ?_, fun d b => ?_, fun k b => ?_, fun e j => ?_, fun j => ?_⟩ <;>
    after_results_simp <;> pointwise []

/-! ## The blocks -/

theorem index_zero : ∀ w : Fin cfg0.W, w ≠ 2 → w ≠ 4 → ∀ (t : Fin cfg0.N) a, (cfg0.win w).index t a = 0 := by decide +kernel

/-- A block that is its whole array is that array. -/
theorem whole_apply (t : Fin cfg0.N) :
    (∀ i, iblk m c 0 t i = V m c main_v0 i) ∧ (∀ i, iblk m c 1 t i = V m c main_v1 i) ∧ (∀ i, iblk m c 3 t i = V m c main_v3 i)
    ∧ (∀ i, iblk m c 5 t i = V m c main_arg4 i) ∧ (∀ i, iblk m c 6 t i = V m c main_v7 i) ∧ (∀ i, iblk m c 7 t i = V m c main_v9 i) := by
  have h (w : Fin cfg0.W) (h2 : w ≠ 2) (h4 : w ≠ 4) (i) (a) : (((cfg0.win w).rect t).emb i a : ℕ) = i a :=
    Window.rect_emb_val_of_index_zero (cfg0.win w) t a (index_zero w h2 h4 t a) i
  exact ⟨fun i => congrArg (V m c main_v0) (funext fun a => Fin.ext (h 0 (by decide) (by decide) i a)),
    fun i => congrArg (V m c main_v1) (funext fun a => Fin.ext (h 1 (by decide) (by decide) i a)),
    fun i => congrArg (V m c main_v3) (funext fun a => Fin.ext (h 3 (by decide) (by decide) i a)),
    fun i => congrArg (V m c main_arg4) (funext fun a => Fin.ext (h 5 (by decide) (by decide) i a)),
    fun i => congrArg (V m c main_v7) (funext fun a => Fin.ext (h 6 (by decide) (by decide) i a)),
    fun i => congrArg (V m c main_v9) (funext fun a => Fin.ext (h 7 (by decide) (by decide) i a))⟩

theorem index_2 : ∀ t : Fin cfg0.N, (cfg0.win 2).index t (0 : Fin 2) = 0 ∧ (cfg0.win 2).index t (1 : Fin 2) = t.val := by decide +kernel
theorem index_4 : ∀ t : Fin cfg0.N, (cfg0.win 4).index t (0 : Fin 2) = t.val ∧ (cfg0.win 4).index t (1 : Fin 2) = 0 := by decide +kernel
theorem xsize_2 : ∀ t : Fin cfg0.N, (cfg0.win 2).xsize (grid0.coords t) (0 : Fin 2) = 64
    ∧ (cfg0.win 2).xsize (grid0.coords t) (1 : Fin 2) = min 4096 (100000 - 4096 * t.val) := by decide +kernel
theorem xsize_4 : ∀ t : Fin cfg0.N, (cfg0.win 4).xsize (grid0.coords t) (0 : Fin 2) = min 4096 (100000 - 4096 * t.val)
    ∧ (cfg0.win 4).xsize (grid0.coords t) (1 : Fin 2) = 1024 := by decide +kernel

/-- The block of neighbours at a point, inside the array, -/
theorem nblk_apply (t : Fin cfg0.N) (d : Fin 64) (k : Fin 4096) (h : 4096 * t.val + k.val < 100000) :
    nblk m c t (ix2 d k) = m ((c.tc : Thread nD τ).loc main_arg1) (ix2 ⟨4096 * t.val + k.val, h⟩ d) := by
  have hk : k.val < min 4096 (100000 - 4096 * t.val) := lt_min k.isLt (by omega)
  have hm : (cfg0.win 2).moved (grid0.coords t) (ix2 d k) = true := by
    rw [Window.moved_iff]
    intro a
    obtain ⟨e0, e1⟩ := xsize_2 t
    fin_cases a
    · exact lt_of_lt_of_eq d.isLt e0.symm
    · exact lt_of_lt_of_eq hk e1.symm
  show (cfg0.win 2).fill _ _ _ _ = _
  unfold Window.fill
  rw [dif_pos hm, ← (arrays_apply m c).2.2.1 d ⟨4096 * t.val + k.val, h⟩]
  refine congrArg (V m c main_v2) (funext fun a => Fin.ext ((Window.rect_emb_val (cfg0.win 2) t _ a).trans ?_))
  obtain ⟨e0, e1⟩ := index_2 t
  fin_cases a
  · show (cfg0.win 2).index t (0 : Fin 2) * 64 + d.val = d.val
    rw [e0]; omega
  · show (cfg0.win 2).index t (1 : Fin 2) * 4096 + k.val = 4096 * t.val + k.val
    rw [e1]; omega
/-- and the block of ratings. -/
theorem rblk_apply (t : Fin cfg0.N) (k : Fin 4096) (b : Fin 1024) (h : 4096 * t.val + k.val < 100000) :
    rblk m c t (ix2 k b) = m ((c.tc : Thread nD τ).loc main_arg3) (ix2 b ⟨4096 * t.val + k.val, h⟩) := by
  have hk : k.val < min 4096 (100000 - 4096 * t.val) := lt_min k.isLt (by omega)
  have hm : (cfg0.win 4).moved (grid0.coords t) (ix2 k b) = true := by
    rw [Window.moved_iff]
    intro a
    obtain ⟨e0, e1⟩ := xsize_4 t
    fin_cases a
    · exact lt_of_lt_of_eq hk e0.symm
    · exact lt_of_lt_of_eq b.isLt e1.symm
  show (cfg0.win 4).fill _ _ _ _ = _
  unfold Window.fill
  rw [dif_pos hm, ← (arrays_apply m c).2.2.2.2.1 ⟨4096 * t.val + k.val, h⟩ b]
  refine congrArg (V m c main_v4) (funext fun a => Fin.ext ((Window.rect_emb_val (cfg0.win 4) t _ a).trans ?_))
  obtain ⟨e0, e1⟩ := index_4 t
  fin_cases a
  · show (cfg0.win 4).index t (0 : Fin 2) * 4096 + k.val = 4096 * t.val + k.val
    rw [e0]; omega
  · show (cfg0.win 4).index t (1 : Fin 2) * 1024 + b.val = b.val
    rw [e1]; omega

/-- The leading columns of a block, -/
theorem tailN_apply (x : Vec Ideal S64x4096 .f32) (d : Fin 64) (k : Fin 1696) : tailN x (ix2 d k) = x (ix2 d ⟨k.val, by omega⟩) := by
  refine congrArg x (funext fun a => Fin.ext ?_)
  fin_cases a
  · show 0 + 1 * d.val = d.val
    omega
  · show 0 + 1 * k.val = k.val
    omega
/-- and its leading rows. -/
theorem tailR_apply (x : Vec Ideal S4096x1024 .f32) (k : Fin 1696) (b : Fin 1024) : tailR x (ix2 k b) = x (ix2 ⟨k.val, by omega⟩ b) := by
  refine congrArg x (funext fun a => Fin.ext ?_)
  fin_cases a
  · show 0 + 1 * k.val = k.val
    omega
  · show 0 + 1 * b.val = b.val
    omega

end Cert.Proof

end
-- ==== Proof.IdealResult.lean ====
/-
  The kernel's result as the plain functions of Proof/Spec.lean: the accumulators over all the neighbours, what the last
  point stores, and where the run leaves it.
-/
module

public import proofs.«01_k».proof.Proof.IdealBlocks

@[expose] public section

set_option maxRecDepth 16384

noncomputable section

namespace Cert.Proof

open Cert.KernelIdeal Cert.KernelIdeal.Gen Cert.KernelIdeal.Run Cert.Spec
open Idealize.ShloMosaic Idealize.ShloMosaic.TcCoe Idealize.ShloMosaic.Tactic Idealize.ShloMosaic.Pipeline

variable (m : (ℓ : Loc nD τ sig) → Buf (Elt Ideal) ℓ) (c : Dev nD)

/-! ## The arguments the kernel is launched on, as functions -/

/-- The target's embeddings. -/
abbrev inT (b : Fin 1024) (d : Fin 64) : EReal := m ((c.tc : Thread nD τ).loc main_arg0) (ix2 b d)
/-- The neighbours' embeddings. -/
abbrev inN (k : Fin 100000) (d : Fin 64) : EReal := m ((c.tc : Thread nD τ).loc main_arg1) (ix2 k d)
/-- The embeddings the weight is scored on. -/
abbrev inP (b : Fin 1024) (d : Fin 64) : EReal := m ((c.tc : Thread nD τ).loc main_arg2) (ix2 b d)
/-- The ratings. -/
abbrev inR (b : Fin 1024) (k : Fin 100000) : EReal := m ((c.tc : Thread nD τ).loc main_arg3) (ix2 b k)
/-- The cluster centres. -/
abbrev inG (e : Fin 10) (d : Fin 64) : EReal := m ((c.tc : Thread nD τ).loc main_arg4) (ix2 e d)
/-- The score's first matrix. -/
abbrev inW1 (j : Fin 64) (e : Fin 10) : EReal := m ((c.tc : Thread nD τ).loc main_arg5) (ix2 j e)
/-- Its first bias. -/
abbrev inB1 (j : Fin 64) : EReal := m ((c.tc : Thread nD τ).loc main_arg6) (ix1 j)
/-- Its second matrix, of one row. -/
abbrev inW2 (j : Fin 64) : EReal := m ((c.tc : Thread nD τ).loc main_arg7) (ix2 0 j)
/-- Its second bias. -/
abbrev inB2 : EReal := m ((c.tc : Thread nD τ).loc main_arg8) (ix1 0)

/-! ## The accumulators -/

/-- A sum taken in 24 blocks of 4096 and one of 1696 is the sum over the 100000. -/
theorem acc_sum (f : ℕ → EReal) {N : ℕ} (hN : N = 25) (a : (n : ℕ) → n < N → EReal) (h0 : ∀ h, a 0 h = 0 + ∑ k : Fin 4096, f (4096 * 0 + k))
    (hs : ∀ n h, n + 1 < 24 → a (n + 1) h = a n (Nat.lt_of_succ_lt h) + ∑ k : Fin 4096, f (4096 * (n + 1) + k))
    (hl : ∀ h, a 24 h = a 23 (Nat.lt_of_succ_lt h) + ∑ k : Fin 1696, f (4096 * 24 + k)) (h : 24 < N) :
    a 24 h = ∑ k : Fin 100000, f k := by
  have H : ∀ n (h : n < N), n < 24 → a n h = ∑ k ∈ Finset.range (4096 * (n + 1)), f k := by
    intro n
    induction n with
    | zero =>
      intro h _
      rw [h0, zero_add, Finset.sum_range]
      exact Finset.sum_congr rfl fun k _ => congrArg f (by omega)
    | succ n ih =>
      intro h hn
      rw [hs n h hn, ih _ (by omega), show 4096 * (n + 1 + 1) = 4096 * (n + 1) + 4096 by omega, Finset.sum_range_add,
        Finset.sum_range fun x => f (4096 * (n + 1) + x)]
  rw [hl, H 23 _ (by omega), ← Finset.sum_range fun k => f k, show 100000 = 4096 * (23 + 1) + 1696 by omega,
    Finset.sum_range_add, Finset.sum_range fun x => f (4096 * (23 + 1) + x)]

theorem in_range {n k : ℕ} (hn : n < 24) (hk : k < 4096) : 4096 * n + k < 100000 := by omega

/-- A term of the sum of exponentials, -/
abbrev expTerm (b : Fin 1024) (k : Fin 100000) : EReal :=
  Ideal.exp2 (∑ d, inN m c k d * (inT m c b d * (((5 * Real.log 2)⁻¹ : ℝ) : EReal)))
/-- and a term of the rating-weighted sum of row `e`: the neighbours' coordinates, and ones. -/
abbrev ratTerm (e : Fin 65) (b : Fin 1024) (k : Fin 100000) : EReal :=
  (if h : e.val < 64 then inN m c k ⟨e.val, h⟩ else 1) * inR m c b k

/-- The sums of exponentials after the last point, -/
theorem accS_last (h : 24 < cfg0.N) (b : Fin 1024) : accS m c 24 h (ix2 0 b) = ∑ k, expTerm m c b k := by
  have hT (t : Fin cfg0.N) (d : Fin 64) : iblk m c 1 t (ix2 d b) = inT m c b d :=
    ((whole_apply m c t).2.1 _).trans ((arrays_apply m c).2.1 d b)
  refine (acc_sum (fun k => if hk : k < 100000 then expTerm m c b ⟨k, hk⟩ else 0) N_0 (fun n h => accS m c n h (ix2 0 b)) ?_ ?_ ?_ h).trans
    (Finset.sum_congr rfl fun k _ => dif_pos k.isLt)
  · intro h
    show k0_pay6 _ _ _ _ = _
    rw [pay6_apply, pay1_apply]
    refine congrArg (0 + ·) (Finset.sum_congr rfl fun k _ => ?_)
    have hk := in_range (n := 0) (by omega) k.isLt
    simp only [hT, dif_pos hk, nblk_apply m c ⟨0, h⟩ _ k hk]
  · intro n h hn
    show accS m c (n + 1) h (ix2 0 b) = accS m c n _ (ix2 0 b) + _
    rw [show accS m c (n + 1) h = _ from if_pos hn, pay6_apply]
    refine congrArg (_ + ·) (Finset.sum_congr rfl fun k _ => ?_)
    have hk := in_range hn k.isLt
    simp only [hT, dif_pos hk, nblk_apply m c ⟨n + 1, h⟩ _ k hk]
  · intro h
    show accS m c (23 + 1) h (ix2 0 b) = accS m c 23 _ (ix2 0 b) + _
    rw [show accS m c (23 + 1) h = _ from if_neg (lt_irrefl 24), pay10_apply]
    refine congrArg (_ + ·) (Finset.sum_congr rfl fun k _ => ?_)
    have hk : 4096 * 24 + k.val < 100000 := by omega
    have hn (d : Fin 64) : tailN (nblk m c ⟨23 + 1, h⟩) (ix2 d k) = inN m c ⟨4096 * 24 + k.val, hk⟩ d :=
      (tailN_apply _ d k).trans (nblk_apply m c ⟨23 + 1, h⟩ d ⟨k.val, by omega⟩ hk)
    simp only [hT, dif_pos hk, hn]
/-- and the rating-weighted sums. -/
theorem accM_last (h : 24 < cfg0.N) (e : Fin 65) (b : Fin 1024) : accM m c 24 h (ix2 e b) = ∑ k, ratTerm m c e b k := by
  refine (acc_sum (fun k => if hk : k < 100000 then ratTerm m c e b ⟨k, hk⟩ else 0) N_0 (fun n h => accM m c n h (ix2 e b)) ?_ ?_ ?_ h).trans
    (Finset.sum_congr rfl fun k _ => dif_pos k.isLt)
  · intro h
    show k0_pay7 _ _ _ _ = _
    rw [pay7_apply, pay2_apply]
    refine congrArg (0 + ·) (Finset.sum_congr rfl fun k _ => ?_)
    have hk := in_range (n := 0) (by omega) k.isLt
    simp only [dif_pos hk, nblk_apply m c ⟨0, h⟩ _ k hk, rblk_apply m c ⟨0, h⟩ k b hk]
  · intro n h hn
    show accM m c (n + 1) h (ix2 e b) = accM m c n _ (ix2 e b) + _
    rw [show accM m c (n + 1) h = _ from if_pos hn, pay7_apply]
    refine congrArg (_ + ·) (Finset.sum_congr rfl fun k _ => ?_)
    have hk := in_range hn k.isLt
    simp only [dif_pos hk, nblk_apply m c ⟨n + 1, h⟩ _ k hk, rblk_apply m c ⟨n + 1, h⟩ k b hk]
  · intro h
    show accM m c (23 + 1) h (ix2 e b) = accM m c 23 _ (ix2 e b) + _
    rw [show accM m c (23 + 1) h = _ from if_neg (lt_irrefl 24), pay11_apply]
    refine congrArg (_ + ·) (Finset.sum_congr rfl fun k _ => ?_)
    have hk : 4096 * 24 + k.val < 100000 := by omega
    have hn (d : Fin 64) : tailN (nblk m c ⟨23 + 1, h⟩) (ix2 d k) = inN m c ⟨4096 * 24 + k.val, hk⟩ d :=
      (tailN_apply _ d k).trans (nblk_apply m c ⟨23 + 1, h⟩ d ⟨k.val, by omega⟩ hk)
    have hr : tailR (rblk m c ⟨23 + 1, h⟩) (ix2 k b) = inR m c b ⟨4096 * 24 + k.val, hk⟩ :=
      (tailR_apply _ k b).trans (rblk_apply m c ⟨23 + 1, h⟩ ⟨k.val, by omega⟩ b hk)
    simp only [dif_pos hk, hn, hr]

/-! ## The result -/

/-- The kernel's loss of a row. -/
def lossIn (b : Fin 1024) : EReal :=
  lossKer ((1 / 5 : ℝ) : EReal) (inT m c b) (fun d => ∑ k, inN m c k d * inR m c b k) (∑ k, expTerm m c b k) (∑ k, inR m c b k)
/-- The kernel's weight of a row. -/
def weightIn (b : Fin 1024) : EReal :=
  softplus (score (inG m c) (inW1 m c) (inB1 m c) (inW2 m c) (inB2 m c) (inT m c b) (inP m c b))

/-- The last point. -/
abbrev tLast : Fin cfg0.N := ⟨24, by rw [show cfg0.N = 25 from N_0]; omega⟩

theorem out_apply : outAt m c tLast (ix2 0 0) = meanKer (lossIn m c) (weightIn m c) := by
  unfold outAt
  rw [outV_apply]
  obtain ⟨h0, -, h3, h5, h6, h7⟩ := whole_apply m c tLast
  obtain ⟨a0, -, -, a3, -, a7, a9⟩ := arrays_apply m c
  have hq (b : Fin 1024) (d : Fin 64) : ∑ k, ratTerm m c ⟨d.val, by omega⟩ b k = ∑ k, inN m c k d * inR m c b k :=
    Finset.sum_congr rfl fun k _ => congrArg (· * _) (dif_pos d.isLt)
  have hr (b : Fin 1024) : ∑ k, ratTerm m c 64 b k = ∑ k, inR m c b k :=
    Finset.sum_congr rfl fun k _ => (congrArg (· * _) (dif_neg (lt_irrefl 64))).trans (one_mul _)
  refine congrArg₂ meanKer (funext fun b => ?_) (funext fun b => ?_)
  · unfold lossIn
    simp only [h0, a0, accS_last, accM_last, hq, hr]
  · have g5 (e : Fin 10) (d : Fin 64) : iblk m c 5 tLast (ix2 e d) = inG m c e d := (h5 _).trans (congrFun (V_main_arg4 m c) _)
    have g6 (j : Fin 64) (e : Fin 10) : iblk m c 6 tLast (ix2 ⟨e.val, by omega⟩ j) = inW1 m c j e :=
      (h6 _).trans ((a7 _ _).trans (dif_pos e.isLt))
    have g6' (j : Fin 64) : iblk m c 6 tLast (ix2 10 j) = inB1 m c j := (h6 _).trans ((a7 _ _).trans (dif_neg (lt_irrefl 10)))
    have g7 (j : Fin 64) : iblk m c 7 tLast (ix2 0 ⟨j.val, by omega⟩) = inW2 m c j := (h7 _).trans ((a9 _).trans (dif_pos j.isLt))
    have g7' : iblk m c 7 tLast (ix2 0 64) = inB2 m c := (h7 _).trans ((a9 _).trans (dif_neg (lt_irrefl 64)))
    unfold weightIn
    simp only [h0, a0, h3, a3, g5, g6, g6', g7, g7']

/-- The result's array after the run, written back once, at the last point, -/
theorem arr_out : (dats m 0 c).arrAt 8 cfg0.N = outAt m c tLast :=
  (dats m 0 c).arrAt_eq_of_after_last 8 tLast (by decide +kernel) _ fun j => by
    rw [after_8]
    rfl

/-- and the result the host makes of it. -/
theorem result_eq : Pipeline.afterTail₀ cfgs (dats m) 0 (V0 m) [hostOps1] c main_v11 = fun _ => meanKer (lossIn m c) (weightIn m c) := by
  unfold Pipeline.afterTail₀
  simp only [hostOps1, List.flatten_cons, List.flatten_nil, List.append_nil]
  after_results_simp
  funext i
  have h : withArrays (cfgs 0).spec c (V0 m c) (fun w => (dats m 0 c).arrAt w (cfgs 0).N) (Proc.devRef .tc main_v10) = outAt m c tLast :=
    (withArrays_arr spec0 (by decide) c (V0 m c) _ 8).trans (arr_out m c)
  rw [h, ← out_apply]
  exact congrArg (outAt m c tLast) (Shape.idx_ext₂ (Fin.ext_iff.mp (Subsingleton.elim (α := Fin 1) _ _)) (Fin.ext_iff.mp (Subsingleton.elim (α := Fin 1) _ _)))

end Cert.Proof

end
-- ==== Proof.Algebraic.lean ====
/-
  The value claim: over the extended reals, with the target's and the neighbours' embeddings finite, the kernel's result is
  the reference's.

  Proof/IdealResult.lean reads what the kernel's run leaves, Proof/RefValue.lean what the reference's leaves, and
  Proof/Algebra.lean says the two are equal.
-/
module

public import proofs.«01_k».proof.Proof.Frames
public import proofs.«01_k».proof.Proof.Algebra
public import proofs.«01_k».proof.Proof.RefValue
public import proofs.«01_k».proof.Proof.IdealResult
public import Idealize.ShloMosaic.Lib.ReduceAll

@[expose] public section

noncomputable section

namespace Cert.Proof

open Idealize.ShloMosaic Idealize.SL.Sem Cert.Spec

/-! ## The precondition -/

/-- The shape relations the precondition states. -/
theorem finite_facts : Cert.Pre_finite.Facts where
  bcast_S_S1024x64 := by decide
  reducesTo_S1024x64_S_d0_1 := by decide
  h_S_ := by decide
  bcast_S_S100000x64 := by decide
  reducesTo_S100000x64_S_d0_1 := by decide

/-- A value whose absolute value compares below the infinity is a real. -/
theorem real_of_lt {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe x => exact ⟨x, rfl⟩

instance : Subsingleton Cert.Pre_finite.S_.Idx := ⟨fun i j => funext fun a => a.elim0⟩

section
variable [Cert.Pre_finite.Facts] {m : (ℓ : Loc Cert.KernelIdeal.nD Cert.KernelIdeal.τ Cert.KernelIdeal.sig) → Buf (Elt Ideal) ℓ}

/-- The precondition says that the target's embeddings are real, and the neighbours' too. -/
theorem real_args (h : Pre_KernelIdeal_finite m) (c : Dev Cert.KernelIdeal.nD) :
    (∀ b d, ∃ r : ℝ, inT m c b d = r) ∧ ∀ k d, ∃ r : ℝ, inN m c k d = r := by
  obtain ⟨h1, h2⟩ := IntOp.andi_eq_one.mp (congrFun (h c) ix0)
  exact ⟨fun b d => real_of_lt (Host.reduce_andi_all _ _ _ _ _ h1 (ix2 b d)),
    fun k d => real_of_lt (Host.reduce_andi_all _ _ _ _ _ h2 (ix2 k d))⟩

/-! ## The frames under the precondition -/

theorem frame_ideal_finite : quiescent_KernelIdeal_pre_finite := fun m g _ => Cert.KernelIdeal.Run.quiescent m g
theorem frame_reference_finite : quiescent_ReferenceIdeal_pre_finite := fun m g _ => frame_reference m g trivial

/-! ## The two results -/

/-- The kernel's result, from finite embeddings, as the reference states it. -/
theorem kernel_value (h : Pre_KernelIdeal_finite m) (c : Dev Cert.KernelIdeal.nD) :
    meanKer (lossIn m c) (weightIn m c) = meanRef (fun b => lossRef (inN m c) (inT m c b) (inR m c b)) (weightIn m c) := by
  obtain ⟨hT, hN⟩ := real_args h c
  rw [mean_eq (lossIn m c) (weightIn m c) fun b => softplus_nonneg _]
  exact congrArg (meanRef · _) (funext fun b => loss_eq _ _ _ hN (hT b))

theorem algebraic : algebraic_KernelIdeal_ReferenceIdeal_pre_finite := by
  intro m g m' g' hpre hargs
  refine ⟨fun c _ => meanKer (lossIn m c) (weightIn m c), ?_, ?_⟩
  · refine (θ_run _ _ _).mono (fun r h c => ⟨?_, h.1.1 c⟩)
      (θ_run_and (Cert.KernelIdeal.Run.quiescent m g) (Cert.KernelIdeal.Run.run_main m g))
    exact ((h.2.1 c).2 Cert.KernelIdeal.main_v11 (Pipeline.mem_restRefs_of Cert.KernelIdeal.main_v11 (by decide) (by decide))).trans
      (result_eq m c)
  · refine (θ_run _ _ _).mono (fun r h c => ⟨(h c).1.trans ?_, (h c).2⟩) (Cert.ReferenceIdeal.Value.run (F := Ideal) m' g')
    obtain ⟨e0, e1, e2, e3, e4, e5, e6, e7, e8⟩ := hargs c
    have hT : argT m' c = inT m c := funext fun b => funext fun d => congrFun e0 _
    have hN : argN m' c = inN m c := funext fun k => funext fun d => congrFun e1 _
    have hP : argP m' c = inP m c := funext fun b => funext fun d => congrFun e2 _
    have hR : argR m' c = inR m c := funext fun b => funext fun k => congrFun e3 _
    have hG : argG m' c = inG m c := funext fun e => funext fun d => congrFun e4 _
    have hW1 : argW1 m' c = inW1 m c := funext fun j => funext fun e => congrFun e5 _
    have hB1 : argB1 m' c = inB1 m c := funext fun j => congrFun e6 _
    have hW2 : argW2 m' c = inW2 m c := funext fun j => congrFun e7 _
    have hB2 : argB2 m' c = inB2 m c := congrFun e8 _
    refine funext fun i => ?_
    have hi : i = ix0 := funext fun a => a.elim0
    rw [hi]
    refine (ref_apply m' c).trans ?_
    rw [hT, hN, hP, hR, hG, hW1, hB1, hW2, hB2]
    exact (kernel_value hpre c).symm

end

end Cert.Proof

end
-- ==== Proof.lean ====
/-
  The certificate: every claim of Defs.lean, from the modules of Proof/.
-/
module

public import proofs.«01_k».proof.Defs
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, finite_facts,
    frame_kernel, frame_ideal, @frame_ideal_finite finite_facts, frame_reference, @frame_reference_finite finite_facts,
    preserves, @algebraic finite_facts⟩

end Cert.Proof

end
